-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S512x1024 : Shape := ⟨2, ![512, 1024]⟩
abbrev S1024x512 : Shape := ⟨2, ![1024, 512]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  main_v18

def fn {F : FTy → Type} [FloatOps F] (main_arg0 : FVec F S4x2048x1024 .f32) (main_arg1 : FVec F S512x1024 .f32) (main_arg2 : FVec F S512x1024 .f32) (main_arg3 : FVec F S512x1024 .f32) (main_arg4 : FVec F S1024x512 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_v13 main_v16
-- ==== Kernel.lean ====
abbrev S4x2048x1024 : Shape := ⟨3, ![4, 2048, 1024]⟩
abbrev S512x1024 : Shape := ⟨2, ![512, 1024]⟩
abbrev S1024x512 : Shape := ⟨2, ![1024, 512]⟩
abbrev S4x256x1024 : Shape := ⟨3, ![4, 256, 1024]⟩
abbrev S4x512x512 : Shape := ⟨3, ![4, 512, 512]⟩
abbrev S1536x1024 : Shape := ⟨2, ![1536, 1024]⟩
abbrev S256x256 : Shape := ⟨2, ![256, 256]⟩
abbrev S1024x1024 : Shape := ⟨2, ![1024, 1024]⟩
abbrev S1024x1536 : Shape := ⟨2, ![1024, 1536]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S4x2048x1024, .f32⟩
  | .local _ .vmem, ⟨0, _⟩ => ⟨S4x256x1024, .f32⟩
  | .local _ .vmem, ⟨1, _⟩ => ⟨S4x256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S1024x512, .f32⟩
  | .local _ .vmem, ⟨6, _⟩ => ⟨S4x256x1024, .f32⟩
  | .local _ .vmem, ⟨7, _⟩ => ⟨S4x256x1024, .f32⟩
  | .local _ .vmem, ⟨8, _⟩ => ⟨S4x512x512, .f32⟩
  | .local _ .vmem, ⟨9, _⟩ => ⟨S1536x1024, .bf16⟩
  | .local _ .vmem, ⟨10, _⟩ => ⟨S1024x512, .bf16⟩
  | .local _ .vmem, ⟨11, _⟩ => ⟨S256x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x1024 : Shape := ⟨3, ![4, 2048, 1024]⟩
abbrev S512x1024 : Shape := ⟨2, ![512, 1024]⟩
abbrev S1024x512 : Shape := ⟨2, ![1024, 512]⟩
abbrev S4x2048x512 : Shape := ⟨3, ![4, 2048, 512]⟩
abbrev S_ : Shape := ⟨0, ![]⟩
abbrev S4x512x512 : Shape := ⟨3, ![4, 512, 512]⟩
abbrev S2048x4x512 : Shape := ⟨3, ![2048, 4, 512]⟩
abbrev S1x4x512 : Shape := ⟨3, ![1, 4, 512]⟩
abbrev S4x512 : Shape := ⟨2, ![4, 512]⟩
abbrev S4x512x1 : Shape := ⟨3, ![4, 512, 1]⟩
abbrev S4x1x512 : Shape := ⟨3, ![4, 1, 512]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S_, .f32⟩
  | .hbm, ⟨9, _⟩ => ⟨S4x512x512, .f32⟩
  | .hbm, ⟨10, _⟩ => ⟨S2048x4x512, .f32⟩
  | .hbm, ⟨11, _⟩ => ⟨S2048x4x512, .f32⟩
  | .hbm, ⟨12, _⟩ => ⟨S2048x4x512, .f32⟩
  | .hbm, ⟨13, _⟩ => ⟨S_, .f32⟩
  | .hbm, ⟨14, _⟩ => ⟨S2048x4x512, .f32⟩
  | .hbm, ⟨15, _⟩ => ⟨S_, .i32⟩
  | .hbm, ⟨16, _⟩ => ⟨S2048x4x512, .f32⟩
  | .hbm, ⟨17, _⟩ => ⟨S2048x4x512, .f32⟩
  | .hbm, ⟨18, _⟩ => ⟨S2048x4x512, .f32⟩
  | .hbm, ⟨19, _⟩ => ⟨S_, .i32⟩
  | .hbm, ⟨20, _⟩ => ⟨S4x512x512, .f32⟩
  | .hbm, ⟨21, _⟩ => ⟨S2048x4x512, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x4x512, .f32⟩
  | .hbm, ⟨27, _⟩ => ⟨S4x512, .f32⟩
  | .hbm, ⟨28, _⟩ => ⟨S_, .i32⟩
  | .hbm, ⟨29, _⟩ => ⟨S_, .i32⟩
  | .hbm, ⟨30, _⟩ => ⟨S1x4x512, .f32⟩
  | .hbm, ⟨31, _⟩ => ⟨S4x512, .f32⟩
  | .hbm, ⟨32, _⟩ => ⟨S_, .i32⟩
  | .hbm, ⟨33, _⟩ => ⟨S_, .i32⟩
  | .hbm, ⟨34, _⟩ => ⟨S1x4x512, .f32⟩
  | .hbm, ⟨35, _⟩ => ⟨S4x512, .f32⟩
  | .hbm, ⟨36, _⟩ => ⟨S4x512, .f32⟩
  | .hbm, ⟨37, _⟩ => ⟨S4x512x1, .f32⟩
  | .hbm, ⟨38, _⟩ => ⟨S4x1x512, .f32⟩
  | .hbm, ⟨39, _⟩ => ⟨S4x512x512, .f32⟩
  | .hbm, ⟨40, _⟩ => ⟨S4x512x512, .f32⟩
  | .hbm, ⟨41, _⟩ => ⟨S4x512x512, .f32⟩
  | .hbm, ⟨42, _⟩ => ⟨S4x512x512, .f32⟩
  | .hbm, ⟨43, _⟩ => ⟨S1x4x512, .f32⟩
  | .hbm, ⟨44, _⟩ => ⟨S_, .i32⟩
  | .hbm, ⟨45, _⟩ => ⟨S_, .i32⟩
  | .hbm, ⟨46, _⟩ => ⟨S2048x4x512, .f32⟩
  | .hbm, ⟨47, _⟩ => ⟨S_, .i32⟩
  | .hbm, ⟨48, _⟩ => ⟨S_, .i32⟩
  | .hbm, ⟨49, _⟩ => ⟨S4x2048x512, .f32⟩
  | .hbm, ⟨50, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_c : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_while0c_c_6 : Ref sig .tc := ⟨.hbm, 22, rfl⟩
abbrev main_while0c_v11 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v11 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_v0 : Ref sig .tc := ⟨.hbm, 30, rfl⟩
abbrev main_while0b_v12 : Ref sig .tc := ⟨.hbm, 31, rfl⟩
abbrev main_while0b_call2_c : Ref sig .tc := ⟨.hbm, 32, rfl⟩
abbrev main_while0b_call2_c_0 : Ref sig .tc := ⟨.hbm, 33, rfl⟩
abbrev main_while0b_call2_v0 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_call3_v0 : Ref sig .tc := ⟨.hbm, 43, rfl⟩
abbrev main_while0b_call3_c : Ref sig .tc := ⟨.hbm, 44, rfl⟩
abbrev main_while0b_call3_c_0 : Ref sig .tc := ⟨.hbm, 45, rfl⟩
abbrev main_while0b_v21 : Ref sig .tc := ⟨.hbm, 46, rfl⟩
abbrev main_while0b_c_6 : Ref sig .tc := ⟨.hbm, 47, rfl⟩
abbrev main_while0b_v22 : Ref sig .tc := ⟨.hbm, 48, rfl⟩
abbrev main_v9 : Ref sig .tc := ⟨.hbm, 49, rfl⟩
abbrev main_v10 : Ref sig .tc := ⟨.hbm, 50, rfl⟩

abbrev nD : Nat := 1
abbrev τ : Topo := Topo.v7x

variable {F : FTy → Type} [FloatOps F]

abbrev main_while0_count : Scf.Loop 32 := ⟨0#32, 2048#32, 1#32⟩
-- ==== Proof.Dots.lean ====
/- The matrix products of the kernel and of the reference read at one element, as sums over the contracted coordinate
   (extended reals): the transposed-left product `kᵀ v` of the kernel, and the reference's three dot_generals. -/
module

public import proofs.«01_k».proof.Proof.Gen.KernelIdeal
public import proofs.«01_k».proof.Proof.Gen.ReferenceIdeal
public import Idealize.ShloMosaic.Lib.ValueIdx
public import Idealize.ShloMosaic.Lib.ValueLayout
public import Idealize.ShloMosaic.Lib.MatmulPlain
public import Idealize.ShloMosaic.Lib.IdealHost

@[expose] public section

noncomputable section

namespace Cert.Proof.Dots

open Idealize.ShloMosaic Idealize.ShloMosaic.ValueIdx

/-- A sum over a one-axis contraction is the sum over its coordinate, once the operand indices are named. -/
theorem sum_contr {sl sr so : Shape} (d : DotDims sl sr so) (n : ℕ) (hr : d.contr.rank = 1)
    (hs : d.contr.size ⟨0, by omega⟩ = n) (L : sl.Idx → EReal) (R : sr.Idx → EReal) (j : so.Idx)
    (li : Fin n → sl.Idx) (ri : Fin n → sr.Idx)
    (hl : ∀ i, d.lhsIdx j ((contrEquiv1 d n hr hs).symm i) = li i)
    (hri : ∀ i, d.rhsIdx j ((contrEquiv1 d n hr hs).symm i) = ri i) :
    ∑ k : d.contr.Idx, L (d.lhsIdx j k) * R (d.rhsIdx j k) = ∑ i : Fin n, L (li i) * R (ri i) := by
  rw [← Equiv.sum_comp (contrEquiv1 d n hr hs).symm]
  exact Finset.sum_congr rfl fun i _ => by rw [hl, hri]

section Kernel
open Cert.KernelIdeal Cert.KernelIdeal.Gen

/-- The product `kᵀ v` at `(j, i)`: the sum over the rows `r` of `k[r, j] · v[r, i]`. -/
theorem kt_v_apply (k v : FVec Ideal S256x512 .bf16) (j i : Fin 512) :
    matmul dot_S256x512_S256x512_S512x512_0_0_1_1_n_n none k v (constant S512x512 .f32 0x00000000#32) (ix2 j i)
      = ∑ r : Fin 256, k (ix2 r j) * v (ix2 r i) := by
  have hrank : dot_S256x512_S256x512_S512x512_0_0_1_1_n_n.contr.rank = 1 := rfl
  have hsize : dot_S256x512_S256x512_S512x512_0_0_1_1_n_n.contr.size ⟨0, by omega⟩ = 256 := rfl
  have hv := contrEquiv1_symm_val dot_S256x512_S256x512_S512x512_0_0_1_1_n_n 256 hrank hsize
  refine (Ideal.matmul_constant_zero_apply _ none _ _ _).trans (sum_contr _ 256 hrank hsize k v _ (fun r => ix2 r j) (fun r => ix2 r i) ?_ ?_)
  · intro r; funext a; apply Fin.ext
    match a with
    | ⟨0, _⟩ => exact hv r
    | ⟨1, _⟩ => rfl
  · intro r; funext a; apply Fin.ext
    match a with
    | ⟨0, _⟩ => exact hv r
    | ⟨1, _⟩ => rfl

end Kernel

section Reference
open Cert.ReferenceIdeal Cert.ReferenceIdeal.Gen

/-- A projection `x Wᵀ` of the reference at `(b, t, j)`: the sum over the model coordinate. -/
theorem proj_apply (x : FVec Ideal S4x2048x1024 .f32) (W : FVec Ideal S512x1024 .f32) (b : Fin 4) (t : Fin 2048) (j : Fin 512) :
    Host.dotGeneral (φ₁ := .f32) (φ₂ := .f32) dot_S4x2048x1024_S512x1024_S4x2048x512_2_1_01_0_n_n none x W (ix3 b t j)
      = ∑ e : Fin 1024, x (ix3 b t e) * W (ix2 j e) := by
  have hrank : dot_S4x2048x1024_S512x1024_S4x2048x512_2_1_01_0_n_n.contr.rank = 1 := rfl
  have hsize : dot_S4x2048x1024_S512x1024_S4x2048x512_2_1_01_0_n_n.contr.size ⟨0, by omega⟩ = 1024 := rfl
  have hv := contrEquiv1_symm_val dot_S4x2048x1024_S512x1024_S4x2048x512_2_1_01_0_n_n 1024 hrank hsize
  refine (Ideal.dotGeneral_apply _ none _ _ _ _).trans (sum_contr _ 1024 hrank hsize x W _ (fun e => ix3 b t e) (fun e => ix2 j e) ?_ ?_)
  · intro r; funext a; apply Fin.ext
    match a with
    | ⟨0, _⟩ => rfl
    | ⟨1, _⟩ => rfl
    | ⟨2, _⟩ => exact hv r
  · intro r; funext a; apply Fin.ext
    match a with
    | ⟨0, _⟩ => rfl
    | ⟨1, _⟩ => exact hv r

/-- The reference's read of its state at `(b, i)`: the sum over `j` of `M[b, i, j] · q[b, j]`. -/
theorem read_apply (M : FVec Ideal S4x512x512 .f32) (q : FVec Ideal S4x512 .f32) (b : Fin 4) (i : Fin 512) :
    Host.dotGeneral (φ₁ := .f32) (φ₂ := .f32) dot_S4x512x512_S4x512_S4x512_2_1_1_n_0_0 none M q (ix2 b i)
      = ∑ j : Fin 512, M (ix3 b i j) * q (ix2 b j) := by
  have hrank : dot_S4x512x512_S4x512_S4x512_2_1_1_n_0_0.contr.rank = 1 := rfl
  have hsize : dot_S4x512x512_S4x512_S4x512_2_1_1_n_0_0.contr.size ⟨0, by omega⟩ = 512 := rfl
  have hv := contrEquiv1_symm_val dot_S4x512x512_S4x512_S4x512_2_1_1_n_0_0 512 hrank hsize
  refine (Ideal.dotGeneral_apply _ none _ _ _ _).trans (sum_contr _ 512 hrank hsize M q _ (fun j => ix3 b i j) (fun j => ix2 b j) ?_ ?_)
  · intro r; funext a; apply Fin.ext
    match a with
    | ⟨0, _⟩ => rfl
    | ⟨1, _⟩ => rfl
    | ⟨2, _⟩ => exact hv r
  · intro r; funext a; apply Fin.ext
    match a with
    | ⟨0, _⟩ => rfl
    | ⟨1, _⟩ => exact hv r

/-- The reference's last product `y Woᵀ` at `(b, t, e)`: the sum over the state coordinate. -/
theorem out_apply (y : FVec Ideal S4x2048x512 .f32) (W : FVec Ideal S1024x512 .f32) (b : Fin 4) (t : Fin 2048) (e : Fin 1024) :
    Host.dotGeneral (φ₁ := .f32) (φ₂ := .f32) dot_S4x2048x512_S1024x512_S4x2048x1024_2_1_01_0_n_n none y W (ix3 b t e)
      = ∑ d : Fin 512, y (ix3 b t d) * W (ix2 e d) := by
  have hrank : dot_S4x2048x512_S1024x512_S4x2048x1024_2_1_01_0_n_n.contr.rank = 1 := rfl
  have hsize : dot_S4x2048x512_S1024x512_S4x2048x1024_2_1_01_0_n_n.contr.size ⟨0, by omega⟩ = 512 := rfl
  have hv := contrEquiv1_symm_val dot_S4x2048x512_S1024x512_S4x2048x1024_2_1_01_0_n_n 512 hrank hsize
  refine (Ideal.dotGeneral_apply _ none _ _ _ _).trans (sum_contr _ 512 hrank hsize y W _ (fun d => ix3 b t d) (fun d => ix2 e d) ?_ ?_)
  · intro r; funext a; apply Fin.ext
    match a with
    | ⟨0, _⟩ => rfl
    | ⟨1, _⟩ => rfl
    | ⟨2, _⟩ => exact hv r
  · intro r; funext a; apply Fin.ext
    match a with
    | ⟨0, _⟩ => rfl
    | ⟨1, _⟩ => exact hv r

end Reference

end Cert.Proof.Dots

end
-- ==== Proof.Block.lean ====
/- What one block of the kernel computes, at the extended reals: the rows of one batch entry of a chunk (`chunkY`), the
   state that entry leaves (`chunkS`), the projections of a chunk, and the block written out, each read at one element.
   The kernel's body spells the same work four times, once per batch entry; every one of them is these definitions at a
   row offset. -/
module

public import proofs.«01_k».proof.Proof.Dots
public import proofs.«01_k».proof.Proof.Gen.KernelIdeal.Skeleton

@[expose] public section

set_option maxRecDepth 16384

noncomputable section

namespace Cert.Proof.Block

open Idealize.ShloMosaic Idealize.ShloMosaic.ValueIdx Cert.KernelIdeal Cert.KernelIdeal.Gen

/-- One batch entry's rows of a chunk: the masked product `(q kᵀ ∘ mask) v` plus the earlier chunks' `q s`. -/
def chunkY (q k v : FVec Ideal S256x512 .bf16) (mask : FVec Ideal S256x256 .f32) (s : FVec Ideal S1x512x512 .f32) :
    FVec Ideal S256x512 .f32 :=
  addf (matmul dot_S256x256_S256x512_S256x512_1_0_0_1_n_n none
      (truncf .bf16 (mulf (matmul dot_S256x512_S256x512_S256x256_1_1_0_0_n_n none q k (constant S256x256 .f32 0x00000000#32)) mask) bitsLt_bf16_f32)
      v (constant S256x512 .f32 0x00000000#32))
    (matmul dot_S256x512_S512x512_S256x512_1_0_0_1_n_n none q
      (truncf .bf16 (shapeCast S512x512 s shapeCasts_S1x512x512_S512x512) bitsLt_bf16_f32) (constant S256x512 .f32 0x00000000#32))

/-- The state one batch entry leaves: `s + kᵀ v`. -/
def chunkS (k v : FVec Ideal S256x512 .bf16) (s : FVec Ideal S1x512x512 .f32) : FVec Ideal S1x512x512 .f32 :=
  shapeCast S1x512x512 (addf (shapeCast S512x512 s shapeCasts_S1x512x512_S512x512)
    (matmul dot_S256x512_S256x512_S512x512_0_0_1_1_n_n none k v (constant S512x512 .f32 0x00000000#32))) shapeCasts_S512x512_S1x512x512

/-- The block written out: the four entries' rows stacked, times `woᵀ`, recut to `[4, 256, 1024]`. -/
def outBlock (y0 y1 y2 y3 : FVec Ideal S256x512 .bf16) (wo : FVec Ideal S1024x512 .bf16) : FVec Ideal S4x256x1024 .f32 :=
  shapeCast S4x256x1024 (matmul dot_S1024x512_S1024x512_S1024x1024_1_1_0_0_n_n none
    (concatenate S1024x512 0 [⟨S256x512, y0⟩, ⟨S256x512, y1⟩, ⟨S256x512, y2⟩, ⟨S256x512, y3⟩] concatenates_S256x512_S256x512_S256x512_S256x512_S1024x512_d0)
    wo (constant S1024x1024 .f32 0x00000000#32)) shapeCasts_S1024x1024_S4x256x1024

/-- A batch entry's rows at `(r, d)`. -/
theorem chunkY_apply (q k v : FVec Ideal S256x512 .bf16) (mask : FVec Ideal S256x256 .f32) (s : FVec Ideal S1x512x512 .f32)
    (r : Fin 256) (d : Fin 512) :
    chunkY q k v mask s (ix2 r d)
      = (∑ c : Fin 256, (∑ j : Fin 512, q (ix2 r j) * k (ix2 c j)) * mask (ix2 r c) * v (ix2 c d))
        + ∑ j : Fin 512, q (ix2 r j) * s (ix3 (0 : Fin 1) j d) := by
  unfold chunkY
  rw [addf_apply]
  refine congrArg₂ (· + ·) ?_ ?_
  · refine (Ideal.matmul_plain_apply (M := 256) (K := 256) (N := 512) none _ v _ r d).trans ?_
    rw [constant_apply, Ideal.ofBits_zero_f32, zero_add]
    refine Finset.sum_congr rfl fun c _ => ?_
    rw [truncf_apply, mulf_apply]
    refine congrArg (· * mask (ix2 r c) * v (ix2 c d)) ?_
    refine (Ideal.matmul_transposedRhs_apply (M := 256) (K := 512) (N := 256) none q k _ r c).trans ?_
    rw [constant_apply, Ideal.ofBits_zero_f32, zero_add]
  · refine (Ideal.matmul_plain_apply (M := 256) (K := 512) (N := 512) none q _ _ r d).trans ?_
    rw [constant_apply, Ideal.ofBits_zero_f32, zero_add]
    refine Finset.sum_congr rfl fun j _ => ?_
    rw [truncf_apply, shapeCast_1ab_ab_apply]

/-- The state a batch entry leaves, at `(j, i)`. -/
theorem chunkS_apply (k v : FVec Ideal S256x512 .bf16) (s : FVec Ideal S1x512x512 .f32) (u : Fin 1) (j i : Fin 512) :
    chunkS k v s (ix3 u j i) = s (ix3 (0 : Fin 1) j i) + ∑ r : Fin 256, k (ix2 r j) * v (ix2 r i) := by
  unfold chunkS
  rw [shapeCast_ab_1ab_apply, addf_apply, shapeCast_1ab_ab_apply, Dots.kt_v_apply]

/-- A chunk's 1024 × 1536 projections at `(row, col)`, the row naming batch entry `b` and chunk row `r`. -/
theorem pay8_apply (x : FVec Ideal S4x256x1024 .f32) (w : FVec Ideal S1536x1024 .bf16) (b : Fin 4) (r : Fin 256)
    (row : Fin 1024) (hrow : row.val = 256 * b.val + r.val) (col : Fin 1536) :
    k0_pay8 (F := Ideal) x w (ix2 row col) = ∑ e : Fin 1024, x (ix3 b r e) * w (ix2 col e) := by
  unfold k0_pay8
  refine (Ideal.matmul_transposedRhs_apply (M := 1024) (K := 1024) (N := 1536) none _ w _ row col).trans ?_
  rw [constant_apply, Ideal.ofBits_zero_f32, zero_add]
  refine Finset.sum_congr rfl fun e _ => congrArg (· * w (ix2 col e)) ?_
  refine shapeCast_apply (s := S4x256x1024) (t := S1024x1024) x _ (ix2 row e) (ix3 b r e) ?_
  rw [Shape.rowMajor_val_three, Shape.rowMajor_val_two]
  show (b.val * 256 + r.val) * 1024 + e.val = row.val * 1024 + e.val
  rw [hrow]; ring

/-- The rows of batch entry `b` cut out of the columns from `off` of a chunk's projections, at `(r, j)`. -/
theorem rows_apply (x : FVec Ideal S4x256x1024 .f32) (w : FVec Ideal S1536x1024 .bf16) (off : ℕ) (o1 : ℕ)
    (h1 : S1024x1536.Slices ![0, off] S1024x512) (h2 : S1024x512.Slices ![o1, 0] S256x512) (b : Fin 4) (hb : o1 = 256 * b.val)
    (r : Fin 256) (j : Fin 512) (col : Fin 1536) (hcol : col.val = off + j.val) :
    extractStridedSlice S256x512 ![o1, 0]
        (truncf (F := Ideal) .bf16 (extractStridedSlice S1024x512 ![0, off] (k0_pay8 (F := Ideal) x w) h1) bitsLt_bf16_f32) h2 (ix2 r j)
      = ∑ e : Fin 1024, x (ix3 b r e) * w (ix2 col e) := by
  have hlt : o1 + r.val < 1024 := by have := b.isLt; have := r.isLt; omega
  refine (extractStridedSlice_apply (s := S1024x512) (t := S256x512) ![o1, 0] _ h2 (ix2 r j) (ix2 (⟨o1 + r.val, hlt⟩ : Fin 1024) j) ?_).trans ?_
  · intro a
    match a with
    | ⟨0, _⟩ => rfl
    | ⟨1, _⟩ => exact (Nat.zero_add _).symm
  rw [truncf_apply]
  refine (extractStridedSlice_apply (s := S1024x1536) (t := S1024x512) ![0, off] _ h1 _ (ix2 (⟨o1 + r.val, hlt⟩ : Fin 1024) col) ?_).trans ?_
  · intro a
    match a with
    | ⟨0, _⟩ => exact (Nat.zero_add _).symm
    | ⟨1, _⟩ => exact hcol
  exact pay8_apply x w b r _ (by rw [← hb]) col

/-- The block written out at `(b, r, e)`: entry `b`'s row against row `e` of `wo`. -/
theorem outBlock_apply (y : Fin 4 → FVec Ideal S256x512 .bf16) (wo : FVec Ideal S1024x512 .bf16) (b : Fin 4) (r : Fin 256) (e : Fin 1024) :
    outBlock (y 0) (y 1) (y 2) (y 3) wo (ix3 b r e) = ∑ d : Fin 512, y b (ix2 r d) * wo (ix2 e d) := by
  unfold outBlock
  have hlt : 256 * b.val + r.val < 1024 := by have := b.isLt; have := r.isLt; omega
  refine (shapeCast_apply (s := S1024x1024) (t := S4x256x1024) _ _ (ix3 b r e) (ix2 (⟨256 * b.val + r.val, hlt⟩ : Fin 1024) e) ?_).trans ?_
  · rw [Shape.rowMajor_val_three, Shape.rowMajor_val_two]
    show (256 * b.val + r.val) * 1024 + e.val = (b.val * 256 + r.val) * 1024 + e.val
    ring
  refine (Ideal.matmul_transposedRhs_apply (M := 1024) (K := 512) (N := 1024) none _ wo _ _ e).trans ?_
  rw [constant_apply, Ideal.ofBits_zero_f32, zero_add]
  refine Finset.sum_congr rfl fun d _ => congrArg (· * wo (ix2 e d)) ?_
  refine concatenate_ofFn_apply (t := S1024x512) (s₁ := S256x512) 0 (N := 4) y _ rfl 256 rfl _ b ?_ (ix2 r d) ?_ ?_
  · show (256 * b.val + r.val) / 256 = b.val
    have := r.isLt; omega
  · show r.val = (256 * b.val + r.val) % 256
    have := r.isLt; omega
  · intro a ha
    match a with
    | ⟨0, _⟩ => exact absurd rfl ha
    | ⟨1, _⟩ => rfl

/-- The mask scratch holds 1 strictly below the diagonal and 0 elsewhere. -/
theorem mask_apply (r c : Fin 256) : k0_pay7 (F := Ideal) (k0_pay6 (F := Ideal)) (ix2 r c) = if c.val < r.val then 1 else 0 := by
  unfold k0_pay7 k0_pay6
  rw [shapeCast_self, select_apply, broadcast_apply, broadcast_apply]
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  rw [h1, h0]
  show Scalar.select (IntOp.cmpi .sgt (iota .tc S256x256 32 [0] _ (ix2 r c)) (iota .tc S256x256 32 [1] _ (ix2 r c))) (1 : EReal) 0 = _
  rw [iota_single_apply, iota_single_apply]
  show Scalar.select (IntOp.cmpi .sgt (BitVec.ofNat 32 r.val) (BitVec.ofNat 32 c.val)) (1 : EReal) 0 = _
  have hr := r.isLt
  have hc := c.isLt
  have e1 : (BitVec.ofNat 32 r.val).toInt = r.val := by
    rw [BitVec.toInt_eq_toNat_of_lt] <;> simp [BitVec.toNat_ofNat] <;> omega
  have e2 : (BitVec.ofNat 32 c.val).toInt = c.val := by
    rw [BitVec.toInt_eq_toNat_of_lt] <;> simp [BitVec.toNat_ofNat] <;> omega
  by_cases h : c.val < r.val
  · rw [if_pos h]
    have : IntOp.cmpi .sgt (BitVec.ofNat 32 r.val) (BitVec.ofNat 32 c.val) = 1#1 := by
      simp [IntOp.cmpi, BitVec.slt, e1, e2, h]
    rw [this, select_one]
  · rw [if_neg h]
    have : IntOp.cmpi .sgt (BitVec.ofNat 32 r.val) (BitVec.ofNat 32 c.val) = 0#1 := by
      simp [IntOp.cmpi, BitVec.slt, e1, e2, h]
    rw [this, select_zero]

end Cert.Proof.Block

end
-- ==== Proof.Point.lean ====
/- What one grid point of the kernel computes, stated by element: the projections of a chunk (`pr`), the state the point
   leaves (`nextState`) and the block it writes out (`nextBlock`), and that the body's stores, read back, are these. The
   four batch entries are one lemma at an entry `b`. -/
module

public import proofs.«01_k».proof.Proof.Block

@[expose] public section

set_option maxRecDepth 16384

noncomputable section

namespace Cert.Proof.Point

open Idealize.ShloMosaic Idealize.ShloMosaic.ValueIdx Cert.KernelIdeal Cert.KernelIdeal.Gen Cert.Proof.Block

/-- Row `512 g + j` of the stacked weights: row `j` of the query (0), key (1) or value (2) weights. -/
def wrow (g : Fin 3) (j : Fin 512) : Fin 1536 := ⟨512 * g.val + j.val, by have := g.isLt; have := j.isLt; omega⟩

/-- The chunk's projection by weight `g`, at batch entry `b`, chunk row `r` and feature `j`. -/
def pr (x : FVec Ideal S4x256x1024 .f32) (w : FVec Ideal S1536x1024 .bf16) (g : Fin 3) (b : Fin 4) (r : Fin 256) (j : Fin 512) : EReal :=
  ∑ e : Fin 1024, x (ix3 b r e) * w (ix2 (wrow g j) e)

/-- The state after a chunk: entry `b`'s plane gains the chunk's `kᵀ v`. -/
def nextState (x : FVec Ideal S4x256x1024 .f32) (w : FVec Ideal S1536x1024 .bf16) (s : FVec Ideal S4x512x512 .f32) : FVec Ideal S4x512x512 .f32 :=
  fun y => s y + ∑ r : Fin 256, pr x w 1 (y 0) r (y 1) * pr x w 2 (y 0) r (y 2)

/-- One row of a chunk before the output projection: the masked part inside the chunk plus the earlier chunks' part. -/
def rowY (x : FVec Ideal S4x256x1024 .f32) (w : FVec Ideal S1536x1024 .bf16) (mask : FVec Ideal S256x256 .f32) (s : FVec Ideal S4x512x512 .f32)
    (b : Fin 4) (r : Fin 256) (d : Fin 512) : EReal :=
  (∑ c : Fin 256, (∑ j : Fin 512, pr x w 0 b r j * pr x w 1 b c j) * mask (ix2 r c) * pr x w 2 b c d)
    + ∑ j : Fin 512, pr x w 0 b r j * s (ix3 b j d)

/-- The block a chunk writes out: each row against the rows of the output weights. -/
def nextBlock (x : FVec Ideal S4x256x1024 .f32) (w : FVec Ideal S1536x1024 .bf16) (wo : FVec Ideal S1024x512 .bf16) (mask : FVec Ideal S256x256 .f32)
    (s : FVec Ideal S4x512x512 .f32) : FVec Ideal S4x256x1024 .f32 :=
  fun y => ∑ d : Fin 512, rowY x w mask s (y 0) (y 1) d * wo (ix2 (y 2) d)

/-! ## One batch entry -/

theorem slices_rows (b : Fin 4) : S1024x512.Slices ![256 * b.val, 0] S256x512 :=
  ⟨rfl, fun a => by
    match a with
    | ⟨0, _⟩ => show 256 * b.val + 256 ≤ 1024; have := b.isLt; omega
    | ⟨1, _⟩ => show 0 + 512 ≤ 512; omega⟩

theorem inb_plane (b : Fin 4) : ∀ a, (![b.val, 0, 0] : Fin 3 → ℕ) a + (![1, 512, 512] : Fin 3 → ℕ) a ≤ S4x512x512.size a := fun a => by
  match a with
  | ⟨0, _⟩ => show b.val + 1 ≤ 4; have := b.isLt; omega
  | ⟨1, _⟩ => show 0 + 512 ≤ 512; omega
  | ⟨2, _⟩ => show 0 + 512 ≤ 512; omega

/-- Entry `b`'s plane of the state. -/
def plane (b : Fin 4) : Rect S4x512x512 := Rect.unit ![b.val, 0, 0] ![1, 512, 512] (inb_plane b)

/-- What a load of entry `b`'s plane reads. -/
def ldPlane (s : FVec Ideal S4x512x512 .f32) (b : Fin 4) : FVec Ideal S1x512x512 .f32 := View.ld (Val := Elt Ideal) (e' := .f32) s (plane b)

/-- A store of entry `b`'s plane. -/
abbrev st (b : Fin 4) (w : FVec Ideal S1x512x512 .f32) : View.Piece (Elt Ideal) S4x512x512 .f32 := ⟨plane b, w⟩

/-- Entry `b`'s 256 rows of a projection of the chunk. -/
def rows (p : FVec Ideal S1024x512 .bf16) (b : Fin 4) : FVec Ideal S256x512 .bf16 :=
  extractStridedSlice S256x512 ![256 * b.val, 0] p (slices_rows b)

theorem plane_emb (b : Fin 4) (u : Fin 1) (j i : Fin 512) : (plane b).emb (ix3 u j i) = ix3 b j i := by
  funext a; apply Fin.ext
  match a with
  | ⟨0, _⟩ => show b.val + 1 * u.val = b.val; have := u.isLt; omega
  | ⟨1, _⟩ => show 0 + 1 * j.val = j.val; omega
  | ⟨2, _⟩ => show 0 + 1 * i.val = i.val; omega

theorem plane_disjoint {a b : Fin 4} (h : a ≠ b) : Disjoint (plane a).set (plane b).set :=
  Rect.unit_disjoint 0 (by
    show a.val + 1 ≤ b.val ∨ b.val + 1 ≤ a.val
    have : a.val ≠ b.val := fun e => h (Fin.ext e)
    omega)

theorem not_mem_plane {a b : Fin 4} (h : a ≠ b) (j i : Fin 512) : ix3 b j i ∉ (plane a).set := fun hm =>
  Finset.disjoint_left.mp (plane_disjoint h) hm (by
    rw [← plane_emb b 0 j i]; exact (plane b).toLoadRect.idx_mem _)

theorem q_apply (x : FVec Ideal S4x256x1024 .f32) (w : FVec Ideal S1536x1024 .bf16) (b : Fin 4) (r : Fin 256) (j : Fin 512) :
    rows (k0_pay9 (F := Ideal) x w) b (ix2 r j) = pr x w 0 b r j :=
  rows_apply x w 0 (256 * b.val) _ _ b rfl r j (wrow 0 j) rfl

theorem k_apply (x : FVec Ideal S4x256x1024 .f32) (w : FVec Ideal S1536x1024 .bf16) (b : Fin 4) (r : Fin 256) (j : Fin 512) :
    rows (k0_pay10 (F := Ideal) x w) b (ix2 r j) = pr x w 1 b r j :=
  rows_apply x w 512 (256 * b.val) _ _ b rfl r j (wrow 1 j) rfl

theorem v_apply (x : FVec Ideal S4x256x1024 .f32) (w : FVec Ideal S1536x1024 .bf16) (b : Fin 4) (r : Fin 256) (j : Fin 512) :
    rows (k0_pay11 (F := Ideal) x w) b (ix2 r j) = pr x w 2 b r j :=
  rows_apply x w 1024 (256 * b.val) _ _ b rfl r j (wrow 2 j) rfl

/-- The plane entry `b` stores. -/
def planeS (x : FVec Ideal S4x256x1024 .f32) (w : FVec Ideal S1536x1024 .bf16) (s : FVec Ideal S4x512x512 .f32) (b : Fin 4) : FVec Ideal S1x512x512 .f32 :=
  chunkS (rows (k0_pay10 (F := Ideal) x w) b) (rows (k0_pay11 (F := Ideal) x w) b) (ldPlane s b)

/-- The rows entry `b` computes. -/
def entryY (x : FVec Ideal S4x256x1024 .f32) (w : FVec Ideal S1536x1024 .bf16) (mask : FVec Ideal S256x256 .f32) (s : FVec Ideal S4x512x512 .f32) (b : Fin 4) :
    FVec Ideal S256x512 .bf16 :=
  truncf .bf16 (chunkY (rows (k0_pay9 (F := Ideal) x w) b) (rows (k0_pay10 (F := Ideal) x w) b) (rows (k0_pay11 (F := Ideal) x w) b) mask (ldPlane s b))
    bitsLt_bf16_f32

theorem ld_plane (s : FVec Ideal S4x512x512 .f32) (b : Fin 4) (u : Fin 1) (j i : Fin 512) :
    ldPlane s b (ix3 u j i) = s (ix3 b j i) := congrArg s (plane_emb b u j i)

theorem planeS_apply (x : FVec Ideal S4x256x1024 .f32) (w : FVec Ideal S1536x1024 .bf16) (s : FVec Ideal S4x512x512 .f32) (b : Fin 4) (u : Fin 1) (j i : Fin 512) :
    planeS x w s b (ix3 u j i) = nextState x w s (ix3 b j i) := by
  unfold planeS nextState
  rw [chunkS_apply, ld_plane]
  exact congrArg (s (ix3 b j i) + ·) (Finset.sum_congr rfl fun r _ => by rw [k_apply, v_apply])

theorem entryY_apply (x : FVec Ideal S4x256x1024 .f32) (w : FVec Ideal S1536x1024 .bf16) (mask : FVec Ideal S256x256 .f32) (s : FVec Ideal S4x512x512 .f32)
    (b : Fin 4) (r : Fin 256) (d : Fin 512) : entryY x w mask s b (ix2 r d) = rowY x w mask s b r d := by
  unfold entryY rowY
  rw [truncf_apply, chunkY_apply]
  simp only [q_apply, k_apply, v_apply, ld_plane]

/-! ## The point -/

/-- A store of plane `a` read at plane `b`. -/
theorem canon_st (a b : Fin 4) (w : FVec Ideal S1x512x512 .f32) (L : List (View.Piece (Elt Ideal) S4x512x512 .f32)) (j i : Fin 512) :
    View.canon (st a w :: L) (ix3 b j i) = if a = b then w (ix3 (0 : Fin 1) j i) else View.canon L (ix3 b j i) := by
  by_cases h : a = b
  · rw [if_pos h, ← h, ← plane_emb a 0 j i]
    exact View.canon_cons_emb (plane a) w L _
  · rw [if_neg h]
    exact View.canon_cons_of_not_mem (st a w) L (not_mem_plane h j i)

/-- Four stores, one per plane, over anything, leave at plane `b` what was stored there. -/
theorem canon_planes (P : Fin 4 → FVec Ideal S1x512x512 .f32) (L : List (View.Piece (Elt Ideal) S4x512x512 .f32)) (b : Fin 4) (j i : Fin 512) :
    View.canon (st 3 (P 3) :: st 2 (P 2) :: st 1 (P 1) :: st 0 (P 0) :: L) (ix3 b j i) = P b (ix3 (0 : Fin 1) j i) := by
  rw [canon_st, canon_st, canon_st, canon_st]
  have hb : b = 0 ∨ b = 1 ∨ b = 2 ∨ b = 3 := by revert b; decide
  rcases hb with h | h | h | h <;> subst h <;> rfl

/-- The four planes a point stores are the next state. -/
theorem canon_state (x : FVec Ideal S4x256x1024 .f32) (w : FVec Ideal S1536x1024 .bf16) (s : FVec Ideal S4x512x512 .f32)
    (L : List (View.Piece (Elt Ideal) S4x512x512 .f32)) :
    View.canon (st 3 (planeS x w s 3) :: st 2 (planeS x w s 2) :: st 1 (planeS x w s 1) :: st 0 (planeS x w s 0) :: L) = nextState x w s := by
  funext y
  rw [eq_ix3 y]
  exact (canon_planes (planeS x w s) L _ _ _).trans (planeS_apply x w s _ _ _ _)

/-- The block a point stores is `nextBlock`. -/
theorem block_eq (x : FVec Ideal S4x256x1024 .f32) (w : FVec Ideal S1536x1024 .bf16) (wo : FVec Ideal S1024x512 .bf16) (mask : FVec Ideal S256x256 .f32)
    (s : FVec Ideal S4x512x512 .f32) :
    outBlock (entryY x w mask s 0) (entryY x w mask s 1) (entryY x w mask s 2) (entryY x w mask s 3) wo = nextBlock x w wo mask s := by
  funext y
  rw [eq_ix3 y]
  refine (outBlock_apply (entryY x w mask s) wo _ _ _).trans ?_
  exact Finset.sum_congr rfl fun d _ => congrArg (· * wo (ix2 (y 2) d)) (entryY_apply x w mask s (y 0) (y 1) d)

/-! ## The stacked weights -/

/-- The three weights stacked, 512 rows each. -/
def wcat (a : Fin 3 → FVec Ideal S512x1024 .f32) : FVec Ideal S1536x1024 .bf16 := fun y =>
  a ⟨(y 0).val / 512, by have : (y 0).val < 1536 := (y 0).isLt; omega⟩ (ix2 (⟨(y 0).val % 512, Nat.mod_lt _ (by decide)⟩ : Fin 512) (y 1))

theorem wcat_apply (a : Fin 3 → FVec Ideal S512x1024 .f32) (g : Fin 3) (j : Fin 512) (e : Fin 1024) : wcat a (ix2 (wrow g j) e) = a g (ix2 j e) := by
  have hj := j.isLt
  have h1 : (⟨(wrow g j).val / 512, by have := (wrow g j).isLt; omega⟩ : Fin 3) = g := Fin.ext (by show (512 * g.val + j.val) / 512 = g.val; omega)
  have h2 : (⟨(wrow g j).val % 512, Nat.mod_lt _ (by decide)⟩ : Fin 512) = j := Fin.ext (by show (512 * g.val + j.val) % 512 = j.val; omega)
  show a ⟨(wrow g j).val / 512, _⟩ (ix2 (⟨(wrow g j).val % 512, _⟩ : Fin 512) e) = _
  rw [h1, h2]

theorem inb_wrows (g : Fin 3) : ∀ a, (![512 * g.val, 0] : Fin 2 → ℕ) a + (![512, 1024] : Fin 2 → ℕ) a ≤ S1536x1024.size a := fun a => by
  match a with
  | ⟨0, _⟩ => show 512 * g.val + 512 ≤ 1536; have := g.isLt; omega
  | ⟨1, _⟩ => show 0 + 1024 ≤ 1024; omega

/-- The rows of weight `g` in the stack. -/
def wrows (g : Fin 3) : Rect S1536x1024 := Rect.unit ![512 * g.val, 0] ![512, 1024] (inb_wrows g)

theorem wrows_emb (g : Fin 3) (j : Fin 512) (e : Fin 1024) : (wrows g).emb (ix2 j e) = ix2 (wrow g j) e := by
  funext a; apply Fin.ext
  match a with
  | ⟨0, _⟩ => show 512 * g.val + 1 * j.val = 512 * g.val + j.val; omega
  | ⟨1, _⟩ => show 0 + 1 * e.val = e.val; omega

theorem exists_wrow (y : S1536x1024.Idx) : ∃ (g : Fin 3) (j : Fin 512) (e : Fin 1024), y = ix2 (wrow g j) e := by
  have hy : (y 0).val < 1536 := (y 0).isLt
  refine ⟨⟨(y 0).val / 512, by omega⟩, ⟨(y 0).val % 512, Nat.mod_lt _ (by decide)⟩, y 1, ?_⟩
  refine (eq_ix2 y).trans (congrArg (fun a => ix2 a (y 1)) (Fin.ext ?_))
  show (y 0).val = 512 * ((y 0).val / 512) + (y 0).val % 512
  omega

/-- A store of weight `g`'s rows. -/
abbrev stw (g : Fin 3) (w : FVec Ideal S512x1024 .bf16) : View.Piece (Elt Ideal) S1536x1024 .bf16 := ⟨wrows g, w⟩

/-- The three stores of the weights leave their stack. -/
theorem canon_weights (a : Fin 3 → FVec Ideal S512x1024 .f32) (p : Fin 3 → FVec Ideal S512x1024 .bf16) (hp : ∀ g, p g = a g) :
    View.canon [stw 2 (p 2), stw 1 (p 1), stw 0 (p 0)] = wcat a := by
  have piece : ∀ (g : Fin 3) (x : S512x1024.Idx), p g x = wcat a ((wrows g).emb x) := fun g x => by
    rw [hp g, eq_ix2 x]
    exact ((congrArg (wcat a) (wrows_emb g _ _)).trans (wcat_apply a g _ _)).symm
  funext y
  refine View.canon_apply_of_pieces (Val := Elt Ideal) (e := .bf16) (wcat a) _ (fun q hq => ?_) y ?_
  · simp only [List.mem_cons, List.not_mem_nil, or_false] at hq
    rcases hq with rfl | rfl | rfl
    exacts [piece 2, piece 1, piece 0]
  · have mem : ∀ g : Fin 3, stw g (p g) ∈ [stw 2 (p 2), stw 1 (p 1), stw 0 (p 0)] := fun g => by
      have hg : g = 0 ∨ g = 1 ∨ g = 2 := by revert g; decide
      rcases hg with h | h | h <;> subst h
      · exact List.mem_cons_of_mem _ (List.mem_cons_of_mem _ List.mem_cons_self)
      · exact List.mem_cons_of_mem _ List.mem_cons_self
      · exact List.mem_cons_self
    obtain ⟨g, j, e, rfl⟩ := exists_wrow y
    refine ⟨_, mem g, ?_⟩
    rw [← wrows_emb]
    exact (wrows g).toLoadRect.idx_mem _

/-! ## Reading back what the first point stored -/

/-- A plane of the state read past a store at another plane. -/
theorem readCov_skip {κ : Kind} {sp : Space} (v : View sig κ sp S4x512x512 .f32) {a b : ℕ}
    (ia : ∀ d, (![a, 0, 0] : Fin 3 → ℕ) d + (![1, 512, 512] : Fin 3 → ℕ) d ≤ S4x512x512.size d)
    (ib : ∀ d, (![b, 0, 0] : Fin 3 → ℕ) d + (![1, 512, 512] : Fin 3 → ℕ) d ≤ S4x512x512.size d) (h : a ≠ b)
    (w : (Rect.unit (s := S4x512x512) ![a, 0, 0] ![1, 512, 512] ia).shape.Idx → Elt Ideal .f32) (L : List (View.Piece (Elt Ideal) S4x512x512 .f32)) :
    v.readCov (⟨Rect.unit ![a, 0, 0] ![1, 512, 512] ia, w⟩ :: L) (Rect.unit (s := S4x512x512) ![b, 0, 0] ![1, 512, 512] ib).toLoadRect
      = v.readCov L (Rect.unit (s := S4x512x512) ![b, 0, 0] ![1, 512, 512] ib).toLoadRect :=
  View.readCov_cons_of_disjoint v _ L _ (Rect.unit_disjoint (s := S4x512x512) (inb := ia) (inb' := ib) 0 (by
    show a + 1 ≤ b ∨ b + 1 ≤ a
    omega))

/-- A plane read back after one store of a whole array is that array's plane. -/
theorem readCov_whole {κ : Kind} {sp : Space} (v : View sig κ sp S4x512x512 .f32) {b : ℕ} (w : FVec Ideal S4x512x512 .f32)
    (inb : ∀ a, (![0, 0, 0] : Fin 3 → ℕ) a + (![4, 512, 512] : Fin 3 → ℕ) a ≤ S4x512x512.size a)
    (ib : ∀ d, (![b, 0, 0] : Fin 3 → ℕ) d + (![1, 512, 512] : Fin 3 → ℕ) d ≤ S4x512x512.size d) :
    v.readCov ([⟨Rect.unit (s := S4x512x512) ![0, 0, 0] ![4, 512, 512] inb, w⟩] : List (View.Piece (Elt Ideal) S4x512x512 .f32))
        (Rect.unit (s := S4x512x512) ![b, 0, 0] ![1, 512, 512] ib).toLoadRect
      = View.ld (Val := Elt Ideal) (e' := .f32) w (Rect.unit (s := S4x512x512) ![b, 0, 0] ![1, 512, 512] ib) := by
  have h := View.canon_unit_zero (Val := Elt Ideal) (S := S4x512x512) (e := .f32) (off := ![0, 0, 0]) (by funext a; fin_cases a <;> rfl) inb w
  rw [View.readCov_eq_canon']
  funext j
  exact congrFun h _

/-- The stacked weights read back whole after the three stores. -/
theorem readCov_weights {κ : Kind} {sp : Space} (v : View sig κ sp S1536x1024 .bf16) (p0 p1 p2 : FVec Ideal S512x1024 .bf16)
    (i0 : ∀ d, (![0, 0] : Fin 2 → ℕ) d + (![512, 1024] : Fin 2 → ℕ) d ≤ S1536x1024.size d)
    (i1 : ∀ d, (![512, 0] : Fin 2 → ℕ) d + (![512, 1024] : Fin 2 → ℕ) d ≤ S1536x1024.size d)
    (i2 : ∀ d, (![1024, 0] : Fin 2 → ℕ) d + (![512, 1024] : Fin 2 → ℕ) d ≤ S1536x1024.size d)
    (i : ∀ d, (![0, 0] : Fin 2 → ℕ) d + (![1536, 1024] : Fin 2 → ℕ) d ≤ S1536x1024.size d) :
    v.readCov ([⟨Rect.unit (s := S1536x1024) ![1024, 0] ![512, 1024] i2, p2⟩, ⟨Rect.unit (s := S1536x1024) ![512, 0] ![512, 1024] i1, p1⟩,
        ⟨Rect.unit (s := S1536x1024) ![0, 0] ![512, 1024] i0, p0⟩] : List (View.Piece (Elt Ideal) S1536x1024 .bf16))
        (Rect.unit (s := S1536x1024) ![0, 0] ![1536, 1024] i).toLoadRect
      = wcat ![p0, p1, p2] := by
  have h := View.ld_unit_zero (Val := Elt Ideal) (S := S1536x1024) (e := .bf16) (off := ![0, 0]) (by funext a; fin_cases a <;> rfl) i (wcat ![p0, p1, p2])
  rw [View.readCov_eq_canon']
  refine Eq.trans ?_ h
  funext j
  exact congrFun (canon_weights ![p0, p1, p2] ![p0, p1, p2] fun _ => rfl) _

end Cert.Proof.Point

end
-- ==== Proof.Opened.lean ====
/- The kernel's carried contents after each grid point, in the terms of Point.lean: at the first point from the zeroed
   state and the weights it stacks, at a later point from what the point before left. -/
module

public import proofs.«01_k».proof.Proof.Point
public import proofs.«01_k».proof.Proof.Gen.KernelIdeal.Value

@[expose] public section

set_option maxRecDepth 16384

noncomputable section

namespace Cert.Proof.Opened

open Idealize.ShloMosaic Idealize.ShloMosaic.ValueIdx Cert.KernelIdeal Cert.KernelIdeal.Gen Cert.Proof.Block Cert.Proof.Point

variable (m : (ℓ : Loc nD τ sig) → Buf (Elt Ideal) ℓ)

theorem hz2 : (![0, 0] : Fin 2 → ℕ) = fun _ => 0 := by funext a; fin_cases a <;> rfl
theorem hz3 : (![0, 0, 0] : Fin 3 → ℕ) = fun _ => 0 := by funext a; fin_cases a <;> rfl

/-! Loads of whole arrays read them. -/

theorem ld_x (x : FVec Ideal S4x256x1024 .f32) : View.ld (Val := Elt Ideal) (e' := .f32) x (Rect.unit ![0, 0, 0] ![4, 256, 1024] inb_S4x256x1024_S4x256x1024_0_0_0) = x :=
  View.ld_unit_zero (Val := Elt Ideal) (S := S4x256x1024) (e := .f32) (off := ![0, 0, 0]) hz3 _ x
theorem ld_w (x : FVec Ideal S1536x1024 .bf16) : View.ld (Val := Elt Ideal) (e' := .bf16) x (Rect.unit ![0, 0] ![1536, 1024] inb_S1536x1024_S1536x1024_0_0) = x :=
  View.ld_unit_zero (Val := Elt Ideal) (S := S1536x1024) (e := .bf16) (off := ![0, 0]) hz2 _ x
theorem ld_mask (x : FVec Ideal S256x256 .f32) : View.ld (Val := Elt Ideal) (e' := .f32) x (Rect.unit ![0, 0] ![256, 256] inb_S256x256_S256x256_0_0) = x :=
  View.ld_unit_zero (Val := Elt Ideal) (S := S256x256) (e := .f32) (off := ![0, 0]) hz2 _ x
theorem ld_wo (x : FVec Ideal S1024x512 .bf16) : View.ld (Val := Elt Ideal) (e' := .bf16) x (Rect.unit ![0, 0] ![1024, 512] inb_S1024x512_S1024x512_0_0) = x :=
  View.ld_unit_zero (Val := Elt Ideal) (S := S1024x512) (e := .bf16) (off := ![0, 0]) hz2 _ x
theorem ld_wof (x : FVec Ideal S1024x512 .f32) : View.ld (Val := Elt Ideal) (e' := .f32) x (Rect.unit ![0, 0] ![1024, 512] inb_S1024x512_S1024x512_0_0) = x :=
  View.ld_unit_zero (Val := Elt Ideal) (S := S1024x512) (e := .f32) (off := ![0, 0]) hz2 _ x
theorem ld_wg (x : FVec Ideal S512x1024 .f32) : View.ld (Val := Elt Ideal) (e' := .f32) x (Rect.unit ![0, 0] ![512, 1024] inb_S512x1024_S512x1024_0_0) = x :=
  View.ld_unit_zero (Val := Elt Ideal) (S := S512x1024) (e := .f32) (off := ![0, 0]) hz2 _ x

/-! Scratch buffers read back what they were given to hold. -/

theorem read_s (h : (scM0_0 : Memref sig .tc .vmem S4x512x512 .f32).IsWhole) (x : FVec Ideal S4x512x512 .f32) :
    View.read (Elt Ideal) (View.whole cc0_scratch0) (h.unread x) = x := h.read_unread (Val := Elt Ideal) x
theorem read_w (h : (scM0_1 : Memref sig .tc .vmem S1536x1024 .bf16).IsWhole) (x : FVec Ideal S1536x1024 .bf16) :
    View.read (Elt Ideal) (View.whole cc0_scratch1) (h.unread x) = x := h.read_unread (Val := Elt Ideal) x
theorem read_wo (h : (scM0_2 : Memref sig .tc .vmem S1024x512 .bf16).IsWhole) (x : FVec Ideal S1024x512 .bf16) :
    View.read (Elt Ideal) (View.whole cc0_scratch2) (h.unread x) = x := h.read_unread (Val := Elt Ideal) x
theorem read_mask (h : (scM0_3 : Memref sig .tc .vmem S256x256 .f32).IsWhole) (x : FVec Ideal S256x256 .f32) :
    View.read (Elt Ideal) (View.whole cc0_scratch3) (h.unread x) = x := h.read_unread (Val := Elt Ideal) x

/-! ## A later point -/

/-- The state a later point leaves. -/
theorem B_state (c : Dev nD) (t : Fin cfg0.N) (h0 : ¬ t.val % 8 = 0) :
    (outsAt0 m c t.val t.isLt).2.1 = nextState (iblk m c 0 t) (outsAt0 m c (t.val - 1) (by have := t.isLt; omega)).2.2.1 (outsAt0 m c (t.val - 1) (by have := t.isLt; omega)).2.1 := by
  rw [outsAt0_B m c t h0]
  dsimp only
  unfold sout0_B_0
  rw [View.read_writes_junk_eq_canon]
  unfold kernelRun0_B
  dsimp only
  sl_unfold_words
  simp only [View.readAt_eq_ld, Memref.IsWhole.read_unread, ld_x, ld_w, read_s, read_w]
  exact canon_state (iblk m c 0 t) (outsAt0 m c (t.val - 1) (by have := t.isLt; omega)).2.2.1 (outsAt0 m c (t.val - 1) (by have := t.isLt; omega)).2.1 []

/-- The block a later point writes out. -/
theorem B_block (c : Dev nD) (t : Fin cfg0.N) (h0 : ¬ t.val % 8 = 0) :
    (outsAt0 m c t.val t.isLt).1 = nextBlock (iblk m c 0 t) (outsAt0 m c (t.val - 1) (by have := t.isLt; omega)).2.2.1
      (outsAt0 m c (t.val - 1) (by have := t.isLt; omega)).2.2.2.1 (outsAt0 m c (t.val - 1) (by have := t.isLt; omega)).2.2.2.2 (outsAt0 m c (t.val - 1) (by have := t.isLt; omega)).2.1 := by
  rw [outsAt0_B m c t h0]
  dsimp only
  unfold out0_B_5
  rw [View.read_writes_junk_eq_canon]
  unfold kernelRun0_B
  dsimp only
  sl_unfold_words
  simp only [View.readAt_eq_ld, Memref.IsWhole.read_unread, ld_x, ld_w, ld_mask, ld_wo, read_s, read_w, read_wo, read_mask]
  refine (View.canon_unit_zero (S := S4x256x1024) hz3 _ _).trans ?_
  exact block_eq (iblk m c 0 t) _ _ _ _

/-- A later point keeps the stacked weights, the output weights and the mask. -/
theorem B_kept (c : Dev nD) (t : Fin cfg0.N) (h0 : ¬ t.val % 8 = 0) :
    (outsAt0 m c t.val t.isLt).2.2 = (outsAt0 m c (t.val - 1) (by have := t.isLt; omega)).2.2 := by
  rw [outsAt0_B m c t h0]
  rfl

/-! ## The first point -/

/-- The weights the first point stacks. -/
abbrev W0 (c : Dev nD) (t : Fin cfg0.N) : FVec Ideal S1536x1024 .bf16 :=
  wcat ![k0_pay2 (F := Ideal) (iblk m c 1 t), k0_pay3 (F := Ideal) (iblk m c 2 t), k0_pay4 (F := Ideal) (iblk m c 3 t)]

/-- The state the first point leaves. -/
theorem A_state (c : Dev nD) (t : Fin cfg0.N) (h0 : t.val % 8 = 0) :
    (outsAt0 m c t.val t.isLt).2.1 = nextState (iblk m c 0 t) (W0 m c t) (k0_pay1 (F := Ideal)) := by
  rw [outsAt0_A m c t h0]
  dsimp only
  unfold sout0_A_0
  rw [View.read_writes_junk_eq_canon]
  unfold kernelRun0_A
  dsimp only
  sl_unfold_words
  simp only [View.readAt_eq_ld, Memref.IsWhole.read_unread, ld_x, ld_wg]
  rw [readCov_weights]
  simp only [readCov_skip _ _ _ (by decide : (0 : ℕ) ≠ 1), readCov_skip _ _ _ (by decide : (0 : ℕ) ≠ 2), readCov_skip _ _ _ (by decide : (0 : ℕ) ≠ 3),
    readCov_skip _ _ _ (by decide : (1 : ℕ) ≠ 2), readCov_skip _ _ _ (by decide : (1 : ℕ) ≠ 3), readCov_skip _ _ _ (by decide : (2 : ℕ) ≠ 3), readCov_whole]
  exact canon_state (iblk m c 0 t) (W0 m c t) (k0_pay1 (F := Ideal)) _

/-- The block the first point writes out. -/
theorem A_block (c : Dev nD) (t : Fin cfg0.N) (h0 : t.val % 8 = 0) :
    (outsAt0 m c t.val t.isLt).1 = nextBlock (iblk m c 0 t) (W0 m c t) (k0_pay5 (F := Ideal) (iblk m c 4 t)) (k0_pay7 (k0_pay6 (F := Ideal))) (k0_pay1 (F := Ideal)) := by
  rw [outsAt0_A m c t h0]
  dsimp only
  unfold out0_A_5
  rw [View.read_writes_junk_eq_canon]
  unfold kernelRun0_A
  dsimp only
  sl_unfold_words
  simp only [View.readAt_eq_ld, Memref.IsWhole.read_unread, ld_x, ld_wg, ld_wof, View.readCov_cons_toLoadRect]
  rw [readCov_weights]
  simp only [readCov_skip _ _ _ (by decide : (0 : ℕ) ≠ 1), readCov_skip _ _ _ (by decide : (0 : ℕ) ≠ 2), readCov_skip _ _ _ (by decide : (0 : ℕ) ≠ 3),
    readCov_skip _ _ _ (by decide : (1 : ℕ) ≠ 2), readCov_skip _ _ _ (by decide : (1 : ℕ) ≠ 3), readCov_skip _ _ _ (by decide : (2 : ℕ) ≠ 3), readCov_whole]
  refine (View.canon_unit_zero (S := S4x256x1024) hz3 _ _).trans ?_
  exact block_eq (iblk m c 0 t) _ _ _ _

/-- The first point leaves the stacked weights, -/
theorem A_weights (c : Dev nD) (t : Fin cfg0.N) (h0 : t.val % 8 = 0) : (outsAt0 m c t.val t.isLt).2.2.1 = W0 m c t := by
  rw [outsAt0_A m c t h0]
  dsimp only
  unfold sout0_A_1
  rw [View.read_writes_junk_eq_canon]
  unfold kernelRun0_A
  dsimp only
  sl_unfold_words
  simp only [View.readAt_eq_ld, Memref.IsWhole.read_unread, ld_wg]
  exact canon_weights _ ![k0_pay2 (F := Ideal) (iblk m c 1 t), k0_pay3 (F := Ideal) (iblk m c 2 t), k0_pay4 (F := Ideal) (iblk m c 3 t)] fun _ => rfl

/-- the output weights -/
theorem A_wo (c : Dev nD) (t : Fin cfg0.N) (h0 : t.val % 8 = 0) : (outsAt0 m c t.val t.isLt).2.2.2.1 = k0_pay5 (F := Ideal) (iblk m c 4 t) := by
  rw [outsAt0_A m c t h0]
  dsimp only
  unfold sout0_A_2
  rw [View.read_writes_junk_eq_canon]
  unfold kernelRun0_A
  dsimp only
  sl_unfold_words
  simp only [View.readAt_eq_ld, Memref.IsWhole.read_unread, ld_wof]
  exact View.canon_unit_zero (S := S1024x512) hz2 _ _

/-- and the mask. -/
theorem A_mask (c : Dev nD) (t : Fin cfg0.N) (h0 : t.val % 8 = 0) : (outsAt0 m c t.val t.isLt).2.2.2.2 = k0_pay7 (k0_pay6 (F := Ideal)) := by
  rw [outsAt0_A m c t h0]
  dsimp only
  unfold sout0_A_3
  rw [View.read_writes_junk_eq_canon]
  unfold kernelRun0_A
  dsimp only
  sl_unfold_words
  exact View.canon_unit_zero (S := S256x256) hz2 _ _

end Cert.Proof.Opened

end
-- ==== Proof.Blocks.lean ====
/- What the kernel's windows read at a grid point: chunk `t`'s 256 rows of the first argument, and the weights whole. -/
module

public import proofs.«01_k».proof.Proof.Opened

@[expose] public section

noncomputable section

namespace Cert.Proof.Blocks

open Idealize.ShloMosaic Idealize.ShloMosaic.ValueIdx Cert.KernelIdeal Cert.KernelIdeal.Gen

variable (m : (ℓ : Loc nD τ sig) → Buf (Elt Ideal) ℓ)

/-! The kernel's arguments as arrays. -/

abbrev X (c : Dev nD) : FVec Ideal S4x2048x1024 .f32 := m (c.tc.loc main_arg0)
abbrev Wq (c : Dev nD) : FVec Ideal S512x1024 .f32 := m (c.tc.loc main_arg1)
abbrev Wk (c : Dev nD) : FVec Ideal S512x1024 .f32 := m (c.tc.loc main_arg2)
abbrev Wv (c : Dev nD) : FVec Ideal S512x1024 .f32 := m (c.tc.loc main_arg3)
abbrev Wo (c : Dev nD) : FVec Ideal S1024x512 .f32 := m (c.tc.loc main_arg4)

theorem index0 : ∀ (t : Fin cfg0.N) (a : Fin 3), win0_0.index t a = ![0, t.val, 0] a :=
  (by decide +kernel : ∀ (t : Fin grid0.N) (a : Fin 3), win0_0.index t a = ![0, t.val, 0] a)

/-- The kernel reads chunk `t`'s rows of the first argument. -/
theorem x_block (c : Dev nD) (t : Fin cfg0.N) (b : Fin 4) (r : Fin 256) (e : Fin 1024) (row : Fin 2048) (hrow : row.val = 256 * t.val + r.val) :
    iblk m c 0 t (ix3 b r e) = X m c (ix3 b row e) := by
  refine congrArg (X m c) (funext fun a => Fin.ext ?_)
  match a with
  | ⟨0, _⟩ => show win0_0.index t (0 : Fin 3) * 4 + 1 * b.val = b.val; rw [index0]; show 0 * 4 + 1 * b.val = b.val; omega
  | ⟨1, _⟩ => show win0_0.index t (1 : Fin 3) * 256 + 1 * r.val = row.val; rw [index0]; show t.val * 256 + 1 * r.val = row.val; omega
  | ⟨2, _⟩ => show win0_0.index t (2 : Fin 3) * 1024 + 1 * e.val = e.val; rw [index0]; show 0 * 1024 + 1 * e.val = e.val; omega

theorem index1 : ∀ (t : Fin cfg0.N) (a : Fin 2), win0_1.index t a = 0 :=
  (by decide +kernel : ∀ (t : Fin grid0.N) (a : Fin 2), win0_1.index t a = 0)
theorem index2 : ∀ (t : Fin cfg0.N) (a : Fin 2), win0_2.index t a = 0 :=
  (by decide +kernel : ∀ (t : Fin grid0.N) (a : Fin 2), win0_2.index t a = 0)
theorem index3 : ∀ (t : Fin cfg0.N) (a : Fin 2), win0_3.index t a = 0 :=
  (by decide +kernel : ∀ (t : Fin grid0.N) (a : Fin 2), win0_3.index t a = 0)
theorem index4 : ∀ (t : Fin cfg0.N) (a : Fin 2), win0_4.index t a = 0 :=
  (by decide +kernel : ∀ (t : Fin grid0.N) (a : Fin 2), win0_4.index t a = 0)

/-! It reads the four weights whole. -/

theorem wq_block (c : Dev nD) (t : Fin cfg0.N) : iblk m c 1 t = Wq m c :=
  funext fun y => congrArg (Wq m c) (funext fun a => Fin.ext (Pipeline.Window.rect_emb_val_of_index_zero win0_1 t a (index1 t a) y))

theorem wk_block (c : Dev nD) (t : Fin cfg0.N) : iblk m c 2 t = Wk m c :=
  funext fun y => congrArg (Wk m c) (funext fun a => Fin.ext (Pipeline.Window.rect_emb_val_of_index_zero win0_2 t a (index2 t a) y))

theorem wv_block (c : Dev nD) (t : Fin cfg0.N) : iblk m c 3 t = Wv m c :=
  funext fun y => congrArg (Wv m c) (funext fun a => Fin.ext (Pipeline.Window.rect_emb_val_of_index_zero win0_3 t a (index3 t a) y))

theorem wo_block (c : Dev nD) (t : Fin cfg0.N) : iblk m c 4 t = Wo m c :=
  funext fun y => congrArg (Wo m c) (funext fun a => Fin.ext (Pipeline.Window.rect_emb_val_of_index_zero win0_4 t a (index4 t a) y))

end Cert.Proof.Blocks

end
-- ==== Proof.Spec.lean ====
/- The mathematics over the reals, on which both programs meet. For rows `X b t` and weights `A`, `K`, `V`: the projection
   `P`, the state `S` after `n` rows, the row `Y`, and the two ways of computing them — a row at a time, and a chunk of 256
   rows at a time with a strictly lower mask — shown equal. -/
module

public import Idealize.ShloMosaic.Lib.IdealHost

@[expose] public section

noncomputable section

namespace Cert.Proof.Spec

open Finset

/-- A real sum, as an extended real, is the sum of the terms. -/
theorem coe_sum {ι : Type*} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- Row `t` of batch entry `b` against row `j` of a weight. -/
def P (X : Fin 4 → ℕ → Fin 1024 → ℝ) (A : Fin 512 → Fin 1024 → ℝ) (b : Fin 4) (t : ℕ) (j : Fin 512) : ℝ := ∑ e, X b t e * A j e

/-- The state after the first `n` rows, at key feature `j` and value feature `i`. -/
def S (K V : Fin 4 → ℕ → Fin 512 → ℝ) (n : ℕ) (b : Fin 4) (j i : Fin 512) : ℝ := ∑ s ∈ range n, K b s j * V b s i

/-- Row `t` of the result before the output projection: the query against the state of the rows strictly before `t`. -/
def Y (Q K V : Fin 4 → ℕ → Fin 512 → ℝ) (b : Fin 4) (t : ℕ) (i : Fin 512) : ℝ := ∑ j, Q b t j * S K V t b j i

/-- Arrays of extended reals all of whose elements are real: the rows and the three weights, and the reals they are. -/
structure Lifted (x : Fin 4 → Fin 2048 → Fin 1024 → EReal) (wq wk wv : Fin 512 → Fin 1024 → EReal)
    (X : Fin 4 → ℕ → Fin 1024 → ℝ) (A : Fin 3 → Fin 512 → Fin 1024 → ℝ) : Prop where
  x : ∀ b t e, x b t e = (X b t.val e : EReal)
  q : ∀ j e, wq j e = (A 0 j e : EReal)
  k : ∀ j e, wk j e = (A 1 j e : EReal)
  v : ∀ j e, wv j e = (A 2 j e : EReal)

/-- The result: each row against the rows of the output weights, which may be anything. -/
def out (X : Fin 4 → ℕ → Fin 1024 → ℝ) (A : Fin 3 → Fin 512 → Fin 1024 → ℝ) (wo : Fin 1024 → Fin 512 → EReal) (b : Fin 4) (t : ℕ) (e : Fin 1024) : EReal :=
  ∑ d, (Y (P X (A 0)) (P X (A 1)) (P X (A 2)) b t d : EReal) * wo e d

variable (Q K V : Fin 4 → ℕ → Fin 512 → ℝ)

/-- Before the first row the state is zero. -/
theorem S_zero (b : Fin 4) (j i : Fin 512) : S K V 0 b j i = 0 := rfl

/-- One more row. -/
theorem S_succ (n : ℕ) (b : Fin 4) (j i : Fin 512) : S K V (n + 1) b j i = S K V n b j i + K b n j * V b n i := sum_range_succ _ n

/-- `r` more rows. -/
theorem S_add (n r : ℕ) (b : Fin 4) (j i : Fin 512) :
    S K V (n + r) b j i = S K V n b j i + ∑ c ∈ range r, K b (n + c) j * V b (n + c) i := sum_range_add _ n r

/-- A chunk of 256 more rows. -/
theorem S_chunk (n : ℕ) (b : Fin 4) (j i : Fin 512) :
    S K V (256 * (n + 1)) b j i = S K V (256 * n) b j i + ∑ r : Fin 256, K b (256 * n + r) j * V b (256 * n + r) i := by
  rw [Nat.mul_succ, S_add]
  exact congrArg (S K V (256 * n) b j i + ·) (sum_range fun c => K b (256 * n + c) j * V b (256 * n + c) i)

/-- A sum over 256 rows masked to those strictly before `r` is the sum over the first `r`. -/
theorem sum_mask (r : Fin 256) (f : ℕ → ℝ) : (∑ c : Fin 256, if c.val < r.val then f c else 0) = ∑ c ∈ range r.val, f c := by
  rw [← sum_range fun c => if c < r.val then f c else 0, ← sum_filter]
  refine sum_congr ?_ fun _ _ => rfl
  ext c
  have := r.isLt
  simp only [mem_filter, mem_range]
  omega

/-- A row of a chunk, computed by the masked product inside the chunk plus the query against the state before the chunk,
    is the row. -/
theorem Y_chunk (n : ℕ) (b : Fin 4) (r : Fin 256) (d : Fin 512) :
    (∑ c : Fin 256, (∑ j, Q b (256 * n + r) j * K b (256 * n + c) j) * (if c.val < r.val then 1 else 0) * V b (256 * n + c) d)
        + ∑ j, Q b (256 * n + r) j * S K V (256 * n) b j d
      = Y Q K V b (256 * n + r) d := by
  have h1 : (∑ c : Fin 256, (∑ j, Q b (256 * n + r) j * K b (256 * n + c) j) * (if c.val < r.val then 1 else 0) * V b (256 * n + c) d)
      = ∑ j, Q b (256 * n + r) j * ∑ c ∈ range r.val, K b (256 * n + c) j * V b (256 * n + c) d := by
    simp only [mul_sum]
    rw [sum_comm, ← sum_mask r fun c => ∑ j, Q b (256 * n + r) j * (K b (256 * n + c) j * V b (256 * n + c) d)]
    refine sum_congr rfl fun c _ => ?_
    by_cases h : c.val < r.val
    · rw [if_pos h, if_pos h, mul_one, sum_mul]
      exact sum_congr rfl fun j _ => mul_assoc _ _ _
    · rw [if_neg h, if_neg h, mul_zero, zero_mul]
  unfold Y
  rw [h1, ← sum_add_distrib]
  exact sum_congr rfl fun j _ => by rw [S_add, mul_add, add_comm]

end Cert.Proof.Spec

end
-- ==== Proof.KernelValue.lean ====
/- What the kernel computes: after grid point `n` the carried state is the real state of the first `256 (n + 1)` rows, the
   block of point `n` is rows `256 n …` of the result, and so the array written is the result. -/
module

public import proofs.«01_k».proof.Proof.Blocks
public import proofs.«01_k».proof.Proof.Spec

@[expose] public section

noncomputable section

namespace Cert.Proof.KernelValue

open Idealize.ShloMosaic Idealize.ShloMosaic.ValueIdx Cert.KernelIdeal Cert.KernelIdeal.Gen
open Cert.Proof.Block Cert.Proof.Point Cert.Proof.Opened Cert.Proof.Blocks

variable (m : (ℓ : Loc nD τ sig) → Buf (Elt Ideal) ℓ) (c : Dev nD)
variable {Xr : Fin 4 → ℕ → Fin 1024 → ℝ} {A : Fin 3 → Fin 512 → Fin 1024 → ℝ}

/-! ## One point, given real contents -/

/-- The next state of a real state, from real projections, is real. -/
theorem nextState_real {x : FVec Ideal S4x256x1024 .f32} {w : FVec Ideal S1536x1024 .bf16} {s : FVec Ideal S4x512x512 .f32} (n : ℕ)
    (hp : ∀ g b r j, pr x w g b r j = (Spec.P Xr (A g) b (256 * n + r.val) j : EReal))
    (hs : ∀ b j i, s (ix3 b j i) = (Spec.S (Spec.P Xr (A 1)) (Spec.P Xr (A 2)) (256 * n) b j i : EReal)) (b : Fin 4) (j i : Fin 512) :
    nextState x w s (ix3 b j i) = (Spec.S (Spec.P Xr (A 1)) (Spec.P Xr (A 2)) (256 * (n + 1)) b j i : EReal) := by
  rw [Spec.S_chunk, EReal.coe_add, Spec.coe_sum]
  refine congrArg₂ (· + ·) (hs b j i) (Finset.sum_congr rfl fun r _ => ?_)
  rw [EReal.coe_mul]
  exact congrArg₂ (· * ·) (hp 1 b r j) (hp 2 b r i)

/-- A row from real projections and a real state is the real row. -/
theorem rowY_real {x : FVec Ideal S4x256x1024 .f32} {w : FVec Ideal S1536x1024 .bf16} {s : FVec Ideal S4x512x512 .f32} (n : ℕ)
    (hp : ∀ g b r j, pr x w g b r j = (Spec.P Xr (A g) b (256 * n + r.val) j : EReal))
    (hs : ∀ b j i, s (ix3 b j i) = (Spec.S (Spec.P Xr (A 1)) (Spec.P Xr (A 2)) (256 * n) b j i : EReal)) (b : Fin 4) (r : Fin 256) (d : Fin 512) :
    rowY x w (k0_pay7 (k0_pay6 (F := Ideal))) s b r d
      = (Spec.Y (Spec.P Xr (A 0)) (Spec.P Xr (A 1)) (Spec.P Xr (A 2)) b (256 * n + r.val) d : EReal) := by
  rw [← Spec.Y_chunk, EReal.coe_add, Spec.coe_sum, Spec.coe_sum]
  unfold rowY
  refine congrArg₂ (· + ·) (Finset.sum_congr rfl fun k _ => ?_) (Finset.sum_congr rfl fun j _ => ?_)
  · rw [EReal.coe_mul, EReal.coe_mul, Spec.coe_sum, mask_apply, hp 2]
    refine congrArg₂ (fun a b => a * b * _) (Finset.sum_congr rfl fun j _ => ?_) ?_
    · rw [EReal.coe_mul, hp 0, hp 1]
    · by_cases h : k.val < r.val
      · rw [if_pos h, if_pos h, EReal.coe_one]
      · rw [if_neg h, if_neg h, EReal.coe_zero]
  · rw [EReal.coe_mul, hp 0, hs]

/-! ## What the points carry -/

/-- The three weights stacked. -/
abbrev W : FVec Ideal S1536x1024 .bf16 := wcat ![Wq m c, Wk m c, Wv m c]

theorem pay_weight (x : FVec Ideal S512x1024 .f32) : k0_pay2 (F := Ideal) x = x ∧ k0_pay3 (F := Ideal) x = x ∧ k0_pay4 (F := Ideal) x = x := by
  unfold k0_pay2 k0_pay3 k0_pay4
  refine ⟨?_, ?_, ?_⟩ <;> exact shapeCast_self _ _

theorem pay_wo (x : FVec Ideal S1024x512 .f32) : k0_pay5 (F := Ideal) x = x := by
  unfold k0_pay5
  exact shapeCast_self _ _

theorem W0_eq (t : Fin cfg0.N) : W0 m c t = W m c := by
  show wcat ![k0_pay2 (F := Ideal) (iblk m c 1 t), k0_pay3 (F := Ideal) (iblk m c 2 t), k0_pay4 (F := Ideal) (iblk m c 3 t)] = _
  rw [wq_block, wk_block, wv_block]
  exact congrArg wcat (by
    funext g
    match g with
    | ⟨0, _⟩ => exact (pay_weight _).1
    | ⟨1, _⟩ => exact (pay_weight _).2.1
    | ⟨2, _⟩ => exact (pay_weight _).2.2)

/-- Every point leaves the stacked weights, the output weights and the mask. -/
theorem kept : ∀ (n : ℕ) (hn : n < cfg0.N), (outsAt0 m c n hn).2.2 = (W m c, Wo m c, k0_pay7 (k0_pay6 (F := Ideal)))
  | 0, hn => by
    refine Prod.ext ((A_weights m c ⟨0, hn⟩ rfl).trans (W0_eq m c _)) (Prod.ext ((A_wo m c ⟨0, hn⟩ rfl).trans ?_) (A_mask m c ⟨0, hn⟩ rfl))
    rw [wo_block, pay_wo]
  | n + 1, hn => by
    have h8 : n + 1 < 8 := lt_of_lt_of_eq hn N_0
    exact (B_kept m c ⟨n + 1, hn⟩ (by show ¬(n + 1) % 8 = 0; omega)).trans (kept n (Nat.lt_of_succ_lt hn))

variable (h : Spec.Lifted (fun b t e => X m c (ix3 b t e)) (fun j e => Wq m c (ix2 j e)) (fun j e => Wk m c (ix2 j e)) (fun j e => Wv m c (ix2 j e)) Xr A)
include h

/-- The projections a point computes are the real ones of its rows. -/
theorem pr_real (t : Fin cfg0.N) (g : Fin 3) (b : Fin 4) (r : Fin 256) (j : Fin 512) :
    pr (iblk m c 0 t) (W m c) g b r j = (Spec.P Xr (A g) b (256 * t.val + r.val) j : EReal) := by
  have ht : t.val < 8 := lt_of_lt_of_eq t.isLt N_0
  have hr := r.isLt
  unfold pr Spec.P
  rw [Spec.coe_sum]
  refine Finset.sum_congr rfl fun e _ => ?_
  rw [EReal.coe_mul, x_block m c t b r e ⟨256 * t.val + r.val, by omega⟩ rfl]
  refine congrArg₂ (· * ·) (h.x b ⟨256 * t.val + r.val, by omega⟩ e) ((wcat_apply _ g j e).trans ?_)
  match g with
  | ⟨0, _⟩ => exact h.q j e
  | ⟨1, _⟩ => exact h.k j e
  | ⟨2, _⟩ => exact h.v j e

theorem zero_state (b : Fin 4) (j i : Fin 512) :
    k0_pay1 (F := Ideal) (ix3 b j i) = (Spec.S (Spec.P Xr (A 1)) (Spec.P Xr (A 2)) (256 * 0) b j i : EReal) := by
  unfold k0_pay1
  rw [shapeCast_self]
  exact Ideal.ofBits_zero_f32

/-- The state after point `n` is the real state of the first `256 (n + 1)` rows. -/
theorem state_real : ∀ (n : ℕ) (hn : n < cfg0.N) (b : Fin 4) (j i : Fin 512),
    (outsAt0 m c n hn).2.1 (ix3 b j i) = (Spec.S (Spec.P Xr (A 1)) (Spec.P Xr (A 2)) (256 * (n + 1)) b j i : EReal)
  | 0, hn, b, j, i => by
    rw [A_state m c ⟨0, hn⟩ rfl, W0_eq]
    exact nextState_real 0 (pr_real m c h ⟨0, hn⟩) (zero_state m c h) b j i
  | n + 1, hn, b, j, i => by
    have h8 : n + 1 < 8 := lt_of_lt_of_eq hn N_0
    have hn' := Nat.lt_of_succ_lt hn
    rw [B_state m c ⟨n + 1, hn⟩ (by show ¬(n + 1) % 8 = 0; omega)]
    show nextState (iblk m c 0 ⟨n + 1, hn⟩) (outsAt0 m c n hn').2.2.1 (outsAt0 m c n hn').2.1 (ix3 b j i) = _
    rw [kept m c n hn']
    exact nextState_real (n + 1) (pr_real m c h ⟨n + 1, hn⟩) (state_real n hn') b j i

/-- Point `n`'s block is rows `256 n …` of the result. -/
theorem block_real (n : ℕ) (hn : n < cfg0.N) (b : Fin 4) (r : Fin 256) (e : Fin 1024) :
    (outsAt0 m c n hn).1 (ix3 b r e) = Spec.out Xr A (fun e d => Wo m c (ix2 e d)) b (256 * n + r.val) e := by
  have key : ∀ s : FVec Ideal S4x512x512 .f32, (∀ b j i, s (ix3 b j i) = (Spec.S (Spec.P Xr (A 1)) (Spec.P Xr (A 2)) (256 * n) b j i : EReal)) →
      nextBlock (iblk m c 0 ⟨n, hn⟩) (W m c) (Wo m c) (k0_pay7 (k0_pay6 (F := Ideal))) s (ix3 b r e)
        = Spec.out Xr A (fun e d => Wo m c (ix2 e d)) b (256 * n + r.val) e := fun s hs =>
    Finset.sum_congr rfl fun d _ => congrArg (· * Wo m c (ix2 e d)) (rowY_real n (pr_real m c h ⟨n, hn⟩) hs b r d)
  cases n with
  | zero =>
    rw [A_block m c ⟨0, hn⟩ rfl, W0_eq, wo_block, pay_wo]
    exact key _ (zero_state m c h)
  | succ n =>
    have h8 : n + 1 < 8 := lt_of_lt_of_eq hn N_0
    have hn' := Nat.lt_of_succ_lt hn
    rw [B_block m c ⟨n + 1, hn⟩ (by show ¬(n + 1) % 8 = 0; omega)]
    show nextBlock (iblk m c 0 ⟨n + 1, hn⟩) (outsAt0 m c n hn').2.2.1 (outsAt0 m c n hn').2.2.2.1 (outsAt0 m c n hn').2.2.2.2 (outsAt0 m c n hn').2.1 (ix3 b r e) = _
    rw [kept m c n hn']
    exact key _ (state_real m c h n hn')

/-- The array the kernel writes is the result. -/
theorem array_real (b : Fin 4) (t : Fin 2048) (e : Fin 1024) :
    (Cert.KernelIdeal.Value.G5 (F := Ideal) m c : FVec Ideal S4x2048x1024 .f32) (ix3 b t e) = Spec.out Xr A (fun e d => Wo m c (ix2 e d)) b t.val e := by
  have ht := t.isLt
  have hb := b.isLt
  have he := e.isLt
  have hp : Cert.KernelIdeal.Value.pt5Of (ix3 b t e) = t.val / 256 := by
    show 8 * (b.val / 4 - 0) + 1 * (t.val / 256 - 0) + 1 * (e.val / 1024 - 0) = t.val / 256
    omega
  have hN : t.val / 256 < cfg0.N := lt_of_lt_of_eq (by omega) N_0.symm
  have hl : Cert.KernelIdeal.Value.loc5Of (ix3 b t e) = ix3 b (⟨t.val % 256, Nat.mod_lt _ (by decide)⟩ : Fin 256) e := by
    funext a; apply Fin.ext
    match a with
    | ⟨0, _⟩ => show b.val % 4 = b.val; omega
    | ⟨1, _⟩ => rfl
    | ⟨2, _⟩ => show e.val % 1024 = e.val; omega
  show Cert.KernelIdeal.Value.G5 (F := Ideal) m c (ix3 b t e) = _
  unfold Cert.KernelIdeal.Value.G5
  rw [dif_pos (by rw [hp]; exact hN), hl, Cert.KernelIdeal.Value.fold0_congr m c _ _ _ ((Nat.zero_add _).symm ▸ hN) hp, ← Cert.KernelIdeal.Value.outsAt0_sweep m c _ hN,
    block_real m c h _ hN]
  exact congrArg (fun t => Spec.out Xr A (fun e d => Wo m c (ix2 e d)) b t e) (Nat.div_add_mod t.val 256)

end Cert.Proof.KernelValue

end
-- ==== Proof.RefStep.lean ====
/- One trip of the reference's loop at one element: the row a slice at the counter reads, the state after the rank-one
   update, and the row written into the result. -/
module

public import proofs.«01_k».proof.Proof.Dots
public import proofs.«01_k».proof.Proof.Gen.ReferenceIdeal.Run
public import Idealize.ShloMosaic.Lib.ValueIdx
public import Idealize.ShloMosaic.Lib.DynamicIndex

@[expose] public section

noncomputable section

namespace Cert.Proof.RefStep

open Idealize.ShloMosaic Idealize.ShloMosaic.ValueIdx Cert.ReferenceIdeal Cert.ReferenceIdeal.Gen Cert.ReferenceIdeal.Value

/-- Row `t` lies inside the array. -/
theorem slices_row (t : Fin 2048) : S2048x4x512.Slices ![t.val, 0, 0] S1x4x512 :=
  ⟨rfl, fun a => by
    match a with
    | ⟨0, _⟩ => show t.val + 1 ≤ 2048; have := t.isLt; omega
    | ⟨1, _⟩ => show 0 + 4 ≤ 4; omega
    | ⟨2, _⟩ => show 0 + 512 ≤ 512; omega⟩

/-- A slice of one row at row `t`, its unit axis dropped. -/
theorem row_apply (x : FVec Ideal S2048x4x512 .f32) (start : Fin 3 → ℤ) (t : Fin 2048) (hs : ∀ a, start a = (((![t.val, 0, 0] : Fin 3 → ℕ) a : ℕ) : ℤ))
    (h : S2048x4x512.Slices (fun _ => 0) S1x4x512) (b : Fin 4) (j : Fin 512) :
    shapeCast S4x512 (Host.dynamicSlice S1x4x512 x start h) shapeCasts_S1x4x512_S4x512 (ix2 b j) = x (ix3 t b j) := by
  rw [shapeCast_1ab_ab_apply, Host.dynamicSlice_eq_extractStridedSlice S1x4x512 x start ![t.val, 0, 0] h (slices_row t) hs]
  refine extractStridedSlice_apply (s := S2048x4x512) (t := S1x4x512) _ _ _ _ (ix3 t b j) fun a => ?_
  match a with
  | ⟨0, _⟩ => rfl
  | ⟨1, _⟩ => exact (Nat.zero_add _).symm
  | ⟨2, _⟩ => exact (Nat.zero_add _).symm

/-- An update of one row at row `t`: that row is the update's, every other row is kept. -/
theorem update_apply (x : FVec Ideal S2048x4x512 .f32) (u : FVec Ideal S1x4x512 .f32) (start : Fin 3 → ℤ) (t : Fin 2048)
    (hs : ∀ a, start a = (((![t.val, 0, 0] : Fin 3 → ℕ) a : ℕ) : ℤ)) (h : S2048x4x512.Slices (fun _ => 0) S1x4x512) (s : Fin 2048) (b : Fin 4) (j : Fin 512) :
    Host.dynamicUpdateSlice x u start h (ix3 s b j) = if s = t then u (ix3 (0 : Fin 1) b j) else x (ix3 s b j) := by
  rw [Host.dynamicUpdateSlice_eq_updateSlice x u start h ![t.val, 0, 0] (fun a => by
    have := (slices_row t).2 a
    rw [hs a]; omega) (slices_row t)]
  unfold updateSlice
  by_cases e : s = t
  · subst e
    rw [if_pos rfl, dif_pos]
    · refine congrArg u (funext fun a => Fin.ext ?_)
      match a with
      | ⟨0, _⟩ => exact Nat.sub_self _
      | ⟨1, _⟩ => rfl
      | ⟨2, _⟩ => rfl
    · intro a
      match a with
      | ⟨0, _⟩ => exact ⟨le_rfl, Nat.lt_succ_self _⟩
      | ⟨1, _⟩ => exact ⟨Nat.zero_le _, by show b.val < 0 + 4; have := b.isLt; omega⟩
      | ⟨2, _⟩ => exact ⟨Nat.zero_le _, by show j.val < 0 + 512; have := j.isLt; omega⟩
  · rw [if_neg e, dif_neg]
    intro hin
    have h0 : t.val ≤ s.val ∧ s.val < t.val + 1 := hin 0
    exact e (Fin.ext (by omega))

/-- `v` spread along the key axis. -/
theorem spread_v (v : FVec Ideal S4x512 .f32) (b : Fin 4) (i j : Fin 512) :
    broadcastInDim S4x512x512 ![0, 1, 2] bcast_S4x512x1_S4x512x512_0_1_2 (broadcastInDim S4x512x1 ![0, 1] bcast_S4x512_S4x512x1_0_1 v) (ix3 b i j)
      = v (ix2 b i) := by
  refine (broadcastInDim_apply (s := S4x512x1) (t := S4x512x512) _ _ _ (ix3 b i j) (ix3 b i (0 : Fin 1)) ?_).trans
    (broadcastInDim_apply (s := S4x512) (t := S4x512x1) _ _ _ (ix3 b i (0 : Fin 1)) (ix2 b i) ?_)
  · intro a
    match a with
    | ⟨0, _⟩ => rfl
    | ⟨1, _⟩ => rfl
    | ⟨2, _⟩ => rfl
  · intro a
    match a with
    | ⟨0, _⟩ => rfl
    | ⟨1, _⟩ => rfl

/-- `k` spread along the value axis. -/
theorem spread_k (k : FVec Ideal S4x512 .f32) (b : Fin 4) (i j : Fin 512) :
    broadcastInDim S4x512x512 ![0, 1, 2] bcast_S4x1x512_S4x512x512_0_1_2 (broadcastInDim S4x1x512 ![0, 2] bcast_S4x512_S4x1x512_0_2 k) (ix3 b i j)
      = k (ix2 b j) := by
  refine (broadcastInDim_apply (s := S4x1x512) (t := S4x512x512) _ _ _ (ix3 b i j) (ix3 b (0 : Fin 1) j) ?_).trans
    (broadcastInDim_apply (s := S4x512) (t := S4x1x512) _ _ _ (ix3 b (0 : Fin 1) j) (ix2 b j) ?_)
  · intro a
    match a with
    | ⟨0, _⟩ => rfl
    | ⟨1, _⟩ => rfl
    | ⟨2, _⟩ => rfl
  · intro a
    match a with
    | ⟨0, _⟩ => rfl
    | ⟨1, _⟩ => rfl

/-- A row given a leading unit axis. -/
theorem lead_apply (y : FVec Ideal S4x512 .f32) (u : Fin 1) (b : Fin 4) (i : Fin 512) :
    broadcastInDim S1x4x512 ![1, 2] bcast_S4x512_S1x4x512_1_2 y (ix3 u b i) = y (ix2 b i) := by
  refine broadcastInDim_apply (s := S4x512) (t := S1x4x512) _ _ _ (ix3 u b i) (ix2 b i) fun a => ?_
  match a with
  | ⟨0, _⟩ => rfl
  | ⟨1, _⟩ => rfl

/-! ## The carried buffers as arrays -/

variable (V : Valuation τ sig (Elt Ideal))

/-- The queries, step by step. -/
abbrev qs : FVec Ideal S2048x4x512 .f32 := V (Proc.devRef .tc main_v8_0)
/-- The keys. -/
abbrev ks : FVec Ideal S2048x4x512 .f32 := V (Proc.devRef .tc main_v8_1)
/-- The values. -/
abbrev vs : FVec Ideal S2048x4x512 .f32 := V (Proc.devRef .tc main_v8_2)
/-- The trip counter. -/
abbrev ctr : IVec S_ 32 := V (Proc.devRef .tc main_v8_3)
/-- The state. -/
abbrev st : FVec Ideal S4x512x512 .f32 := V (Proc.devRef .tc main_v8_4)
/-- The result rows. -/
abbrev ys : FVec Ideal S2048x4x512 .f32 := V (Proc.devRef .tc main_v8_5)

/-- The counter at `t`, as a start of slices. -/
theorem start_eq (t : Fin 2048) (hc : ctr V = fun _ => BitVec.ofNat 32 t.val) (a : Fin 3) :
    ((![V (Proc.devRef .tc main_v8_3), constantI S_ 32 0#32, constantI S_ 32 0#32] : Fin 3 → (⟨S_, .i32⟩ : BufTy).Contents (Elt Ideal)) a (Shape.Idx.first h_S_)).toInt
      = (((![t.val, 0, 0] : Fin 3 → ℕ) a : ℕ) : ℤ) := by
  match a with
  | ⟨0, _⟩ =>
    show (ctr V (Shape.Idx.first h_S_)).toInt = (t.val : ℤ)
    have ht := t.isLt
    rw [hc]
    show (BitVec.ofNat 32 t.val).toInt = (t.val : ℤ)
    rw [BitVec.toInt_eq_toNat_of_lt] <;> simp [BitVec.toNat_ofNat] <;> omega
  | ⟨1, _⟩ => rfl
  | ⟨2, _⟩ => rfl

/-- The state after a trip at counter `t`: it gains the product of row `t`'s value and key. -/
theorem st_step (t : Fin 2048) (hc : ctr V = fun _ => BitVec.ofNat 32 t.val) (b : Fin 4) (i j : Fin 512) :
    st (STEP V) (ix3 b i j) = st V (ix3 b i j) + vs V (ix3 t b i) * ks V (ix3 t b j) := by
  show (STEP V) (Proc.devRef .tc main_v8_4) (ix3 b i j) = _
  rw [STEP_main_v8_4]
  unfold step_main_v8_4
  rw [id, addf_apply, mulf_apply, spread_v, spread_k]
  exact congrArg (st V (ix3 b i j) + ·) (congrArg₂ (· * ·) (row_apply (vs V) _ t (start_eq V t hc) _ b i) (row_apply (ks V) _ t (start_eq V t hc) _ b j))

/-- The rows after a trip at counter `t`: row `t` is the state before the trip against row `t`'s query. -/
theorem ys_step (t : Fin 2048) (hc : ctr V = fun _ => BitVec.ofNat 32 t.val) (s : Fin 2048) (b : Fin 4) (i : Fin 512) :
    ys (STEP V) (ix3 s b i) = if s = t then ∑ j, st V (ix3 b i j) * qs V (ix3 t b j) else ys V (ix3 s b i) := by
  show (STEP V) (Proc.devRef .tc main_v8_5) (ix3 s b i) = _
  rw [STEP_main_v8_5]
  unfold step_main_v8_5
  refine (update_apply (ys V) _ _ t (start_eq V t hc) _ s b i).trans ?_
  rw [lead_apply, Dots.read_apply]
  refine if_congr Iff.rfl (Finset.sum_congr rfl fun j _ => congrArg (st V (ix3 b i j) * ·) ?_) rfl
  exact row_apply (qs V) _ t (start_eq V t hc) _ b j

/-- A trip adds one to the counter. -/
theorem ctr_next (t : ℕ) (hc : ctr V = fun _ => BitVec.ofNat 32 t) : ctr (STEP V) = fun _ => BitVec.ofNat 32 (t + 1) := by
  show (STEP V) (Proc.devRef .tc main_v8_3) = _
  rw [STEP_main_v8_3]
  unfold step_main_v8_3
  funext i
  show IntOp.addi (ctr V i) 1#32 = _
  rw [hc]
  show BitVec.ofNat 32 t + 1#32 = _
  rw [BitVec.ofNat_add]

end Cert.Proof.RefStep

end
-- ==== Proof.RefValue.lean ====
/- What the reference computes, at one element. Its loop takes one row a trip: after `k` trips the state is the spec's state
   of the first `k` rows and the result holds the spec's rows before `k`. -/
module

public import proofs.«01_k».proof.Proof.Spec
public import proofs.«01_k».proof.Proof.RefStep

@[expose] public section

noncomputable section

namespace Cert.Proof.RefValue

open Idealize.ShloMosaic Idealize.ShloMosaic.ValueIdx Idealize.ShloMosaic.Tactic
open Idealize.ShloMosaic.StableHlo
open Cert.ReferenceIdeal Cert.ReferenceIdeal.Gen Cert.ReferenceIdeal.Value Cert.Proof.RefStep

variable (m : (ℓ : Loc nD τ sig) → Buf (Elt Ideal) ℓ) (c : Dev nD)

/-- The rows of tokens. -/
abbrev x : FVec Ideal S4x2048x1024 .f32 := m (c.tc.loc main_arg0)
/-- The query weights. -/
abbrev wq : FVec Ideal S512x1024 .f32 := m (c.tc.loc main_arg1)
/-- The key weights. -/
abbrev wk : FVec Ideal S512x1024 .f32 := m (c.tc.loc main_arg2)
/-- The value weights. -/
abbrev wv : FVec Ideal S512x1024 .f32 := m (c.tc.loc main_arg3)
/-- The output weights. -/
abbrev wo : FVec Ideal S1024x512 .f32 := m (c.tc.loc main_arg4)

/-- The buffers as the loop is entered. -/
abbrev entry : Valuation τ sig (Elt Ideal) := entryContents preI m c

/-- A projection with the row axis first, as an array. -/
def rows (W : FVec Ideal S512x1024 .f32) : FVec Ideal S2048x4x512 .f32 :=
  transpose S2048x4x512 [1, 0, 2] (Host.dotGeneral (φ₁ := .f32) (φ₂ := .f32) dot_S4x2048x1024_S512x1024_S4x2048x512_2_1_01_0_n_n none (x m c) W) transposes_S4x2048x512_S2048x4x512_1_0_2

/-- The loop is entered with the queries. -/
theorem qs_entry : qs (entry m c) = rows m c (wq m c) := by
  simp only [qs, entry, entryContents, afterL_cons, afterL_nil]
  after_reads_simp
  rfl

/-- The loop is entered with the keys. -/
theorem ks_entry : ks (entry m c) = rows m c (wk m c) := by
  simp only [ks, entry, entryContents, afterL_cons, afterL_nil]
  after_reads_simp
  rfl

/-- The loop is entered with the values. -/
theorem vs_entry : vs (entry m c) = rows m c (wv m c) := by
  simp only [vs, entry, entryContents, afterL_cons, afterL_nil]
  after_reads_simp
  rfl

/-- The loop is entered with a zero state. -/
theorem st_entry (i : S4x512x512.Idx) : st (entry m c) i = 0 := by
  have h : st (entry m c) = broadcastInDim S4x512x512 ![] bcast_S_S4x512x512 (constant S_ .f32 0x00000000#32) := by
    simp only [st, entry, entryContents, afterL_cons, afterL_nil]
    after_reads_simp
    rfl
  rw [h]
  exact Ideal.ofBits_zero_f32

/-- One projected row, where the array and the weight are real. -/
theorem rows_apply (W : FVec Ideal S512x1024 .f32) (X : Fin 4 → ℕ → Fin 1024 → ℝ) (A : Fin 512 → Fin 1024 → ℝ)
    (hx : ∀ b (t : Fin 2048) e, x m c (ix3 b t e) = (X b t.val e : EReal)) (hw : ∀ j e, W (ix2 j e) = (A j e : EReal)) (t : Fin 2048) (b : Fin 4) (j : Fin 512) :
    rows m c W (ix3 t b j) = (Spec.P X A b t.val j : EReal) := by
  have ht : rows m c W (ix3 t b j) = Host.dotGeneral (φ₁ := .f32) (φ₂ := .f32) dot_S4x2048x1024_S512x1024_S4x2048x512_2_1_01_0_n_n none (x m c) W (ix3 b t j) := by
    refine transpose_apply _ _ _ _ (ix3 b t j) fun a => ?_
    match a with
    | ⟨0, _⟩ => rfl
    | ⟨1, _⟩ => rfl
    | ⟨2, _⟩ => rfl
  rw [ht, Dots.proj_apply, Spec.P, Spec.coe_sum]
  refine Finset.sum_congr rfl fun e _ => ?_
  rw [hx, hw, EReal.coe_mul]

variable (X : Fin 4 → ℕ → Fin 1024 → ℝ) (A : Fin 3 → Fin 512 → Fin 1024 → ℝ)

/-- The arguments are the reals `X` and `A`. -/
abbrev ArgsReal : Prop :=
  Spec.Lifted (fun b t e => x m c (ix3 b t e)) (fun j e => wq m c (ix2 j e)) (fun j e => wk m c (ix2 j e)) (fun j e => wv m c (ix2 j e)) X A

/-- What the buffers hold after `k` trips. -/
structure Inv (V : Valuation τ sig (Elt Ideal)) (n : ℕ) : Prop where
  q : ∀ (t : Fin 2048) b j, qs V (ix3 t b j) = (Spec.P X (A 0) b t.val j : EReal)
  k : ∀ (t : Fin 2048) b j, ks V (ix3 t b j) = (Spec.P X (A 1) b t.val j : EReal)
  v : ∀ (t : Fin 2048) b j, vs V (ix3 t b j) = (Spec.P X (A 2) b t.val j : EReal)
  counter : ctr V = fun _ => BitVec.ofNat 32 n
  state : ∀ b i j, st V (ix3 b i j) = (Spec.S (Spec.P X (A 1)) (Spec.P X (A 2)) n b j i : EReal)
  row : ∀ (t : Fin 2048), t.val < n → ∀ b i, ys V (ix3 t b i) = (Spec.Y (Spec.P X (A 0)) (Spec.P X (A 1)) (Spec.P X (A 2)) b t.val i : EReal)

/-- Before the first trip. -/
theorem inv_entry (h : ArgsReal m c X A) : Inv X A (entry m c) 0 where
  q t b j := by rw [qs_entry]; exact rows_apply m c _ X (A 0) h.x h.q t b j
  k t b j := by rw [ks_entry]; exact rows_apply m c _ X (A 1) h.x h.k t b j
  v t b j := by rw [vs_entry]; exact rows_apply m c _ X (A 2) h.x h.v t b j
  counter := ctr_entry m c
  state b i j := by rw [st_entry, Spec.S_zero]; rfl
  row _ ht := absurd ht (Nat.not_lt_zero _)

/-- One trip. -/
theorem inv_step (V : Valuation τ sig (Elt Ideal)) (k : Fin 2048) (h : Inv X A V k.val) : Inv X A (STEP V) (k.val + 1) where
  q t b j := by rw [show qs (STEP V) = qs V from STEP_main_v8_0 V]; exact h.q t b j
  k t b j := by rw [show ks (STEP V) = ks V from STEP_main_v8_1 V]; exact h.k t b j
  v t b j := by rw [show vs (STEP V) = vs V from STEP_main_v8_2 V]; exact h.v t b j
  counter := ctr_next V k.val h.counter
  state b i j := by
    rw [st_step V k h.counter, h.state, h.k, h.v, Spec.S_succ, EReal.coe_add, EReal.coe_mul]
    exact congrArg (_ + ·) (mul_comm _ _)
  row t ht b i := by
    rw [ys_step V k h.counter]
    by_cases e : t = k
    · subst e
      rw [if_pos rfl, Spec.Y, Spec.coe_sum]
      refine Finset.sum_congr rfl fun j _ => ?_
      rw [h.state, h.q, EReal.coe_mul]
      exact mul_comm _ _
    · rw [if_neg e]
      exact h.row t (lt_of_le_of_ne (Nat.lt_succ_iff.mp ht) fun hv => e (Fin.ext hv)) b i

/-- After any number of trips. -/
theorem inv (h : ArgsReal m c X A) : ∀ k, k ≤ 2048 → Inv X A (STEP^[k] (entry m c)) k
  | 0, _ => inv_entry m c X A h
  | k + 1, hk => by
    rw [Function.iterate_succ_apply']
    exact inv_step X A _ ⟨k, hk⟩ (inv h k (Nat.le_of_succ_le hk))

/-- The reference's result, where the rows and the three weights are real. -/
theorem result_real (h : ArgsReal m c X A) (b : Fin 4) (t : Fin 2048) (e : Fin 1024) :
    (out_main_v10 (F := Ideal) (STEP^[2048] (entry m c)) : FVec Ideal S4x2048x1024 .f32) (ix3 b t e)
      = Spec.out X A (fun e d => wo m c (ix2 e d)) b t.val e := by
  have hi := inv m c X A h 2048 le_rfl
  unfold out_main_v10
  rw [iter_main_arg4]
  refine (Dots.out_apply _ _ b t e).trans (Finset.sum_congr rfl fun d _ => congrArg (· * wo m c (ix2 e d)) ?_)
  refine (transpose_apply (s := S2048x4x512) (t := S4x2048x512) _ _ _ (ix3 b t d) (ix3 t b d) fun a => ?_).trans (hi.row t t.isLt b d)
  match a with
  | ⟨0, _⟩ => rfl
  | ⟨1, _⟩ => rfl
  | ⟨2, _⟩ => rfl

end Cert.Proof.RefValue

end
-- ==== Proof.Finite.lean ====
/- The precondition read: where the printed predicate `finite` holds, every element of the rows and of the three projection
   weights is a real number. -/
module

public import proofs.«01_k».proof.Pre_finite
public import proofs.«01_k».proof.Proof.Spec
public import Idealize.ShloMosaic.Lib.ReduceAll
public import Idealize.ShloMosaic.Lib.ValueIdx

@[expose] public section

noncomputable section

namespace Cert.Proof.Finite

open Idealize.ShloMosaic Idealize.ShloMosaic.ValueIdx Cert.Pre_finite

/-- The side conditions of the predicate's operations. -/
instance facts : Cert.Pre_finite.Facts where
  bcast_S_S4x2048x1024 := by decide
  reducesTo_S4x2048x1024_S_d0_1_2 := by decide
  h_S_ := by decide
  bcast_S_S512x1024 := by decide
  reducesTo_S512x1024_S_d0_1 := by decide

/-- The word compared with is the top of the extended reals. -/
theorem inf_eq : Ideal.ofBits .f32 0x7F800000#32 = ⊤ := by simp [Ideal.ofBits, Ideal.ieee]

/-- An extended real whose absolute value is below the top is a real. -/
theorem real_of_abs_lt (x : EReal) (h : max x (-x) < ⊤) : x = (x.toReal : EReal) := by
  refine (EReal.coe_toReal (fun e => ?_) (fun e => ?_)).symm
  · rw [e] at h; simp at h
  · rw [e] at h; simp at h

/-- Both halves of a conjunction of truth values. -/
theorem andi_one (a b : BitVec 1) : IntOp.andi a b = 1#1 → a = 1#1 ∧ b = 1#1 := by revert a b; decide

instance : Subsingleton S_.Idx := ⟨fun _ _ => funext fun a => a.elim0⟩

/-- An array whose elements' absolute values all compare below infinity holds reals. -/
theorem real_of_all {s : Shape} {axes : List (Fin s.rank)} (x : FVec Ideal s .f32) (hb : S_.BroadcastsInDim s (![] : Fin 0 → Fin s.rank)) (hr : s.ReducesTo axes S_) (hs : 0 < S_.numel) (j : S_.Idx)
    (h : Host.reduce IntOp.andi (cmpf .olt (Host.absf x) (broadcastInDim s ![] hb (constant (F := Ideal) S_ .f32 0x7F800000#32))) (constantI S_ 1 1#1) hr hs j = 1#1)
    (i : s.Idx) : x i = ((x i).toReal : EReal) := by
  have h1 := Host.reduce_andi_all _ _ hr hs j h i
  have h2 : BitVec.ofBool (decide (max (x i) (-(x i)) < Ideal.ofBits .f32 0x7F800000#32)) = 1#1 := h1
  rw [inf_eq] at h2
  refine real_of_abs_lt _ ?_
  by_contra hn
  rw [decide_eq_false hn] at h2
  exact absurd h2 (by decide)

/-- Where the predicate holds, the four arrays it reads hold reals. -/
theorem reals (x : FVec Ideal S4x2048x1024 .f32) (wq wk wv : FVec Ideal S512x1024 .f32) (wo : FVec Ideal S1024x512 .f32)
    (h : fn (F := Ideal) x wq wk wv wo = fun _ => 1#1) :
    (∀ i, x i = ((x i).toReal : EReal)) ∧ (∀ i, wq i = ((wq i).toReal : EReal)) ∧ (∀ i, wk i = ((wk i).toReal : EReal)) ∧ ∀ i, wv i = ((wv i).toReal : EReal) := by
  have h0 := congrFun h (Shape.Idx.first Facts.h_S_)
  obtain ⟨h1, hv⟩ := andi_one _ _ h0
  obtain ⟨h2, hk⟩ := andi_one _ _ h1
  obtain ⟨hx, hq⟩ := andi_one _ _ h2
  exact ⟨real_of_all x Facts.bcast_S_S4x2048x1024 Facts.reducesTo_S4x2048x1024_S_d0_1_2 Facts.h_S_ (Shape.Idx.first Facts.h_S_) hx,
    real_of_all wq Facts.bcast_S_S512x1024 Facts.reducesTo_S512x1024_S_d0_1 Facts.h_S_ (Shape.Idx.first Facts.h_S_) hq,
    real_of_all wk Facts.bcast_S_S512x1024 Facts.reducesTo_S512x1024_S_d0_1 Facts.h_S_ (Shape.Idx.first Facts.h_S_) hk,
    real_of_all wv Facts.bcast_S_S512x1024 Facts.reducesTo_S512x1024_S_d0_1 Facts.h_S_ (Shape.Idx.first Facts.h_S_) hv⟩

/-- The reals the rows are. -/
def rowsR (x : FVec Ideal S4x2048x1024 .f32) (b : Fin 4) (t : ℕ) (e : Fin 1024) : ℝ := if h : t < 2048 then (x (ix3 b ⟨t, h⟩ e)).toReal else 0

/-- The reals the three weights are. -/
def weightsR (wq wk wv : FVec Ideal S512x1024 .f32) (g : Fin 3) (j : Fin 512) (e : Fin 1024) : ℝ :=
  ((![wq, wk, wv] : Fin 3 → FVec Ideal S512x1024 .f32) g (ix2 j e)).toReal

/-- The precondition, as the mathematics takes it. -/
theorem lifted (x : FVec Ideal S4x2048x1024 .f32) (wq wk wv : FVec Ideal S512x1024 .f32) (wo : FVec Ideal S1024x512 .f32)
    (h : fn (F := Ideal) x wq wk wv wo = fun _ => 1#1) :
    Spec.Lifted (fun b t e => x (ix3 b t e)) (fun j e => wq (ix2 j e)) (fun j e => wk (ix2 j e)) (fun j e => wv (ix2 j e)) (rowsR x) (weightsR wq wk wv) where
  x b t e := by
    rw [rowsR, dif_pos t.isLt]
    exact (reals x wq wk wv wo h).1 _
  q j e := (reals x wq wk wv wo h).2.1 _
  k j e := (reals x wq wk wv wo h).2.2.1 _
  v j e := (reals x wq wk wv wo h).2.2.2 _

end Cert.Proof.Finite

end
-- ==== Proof.lean ====
/- The certificate: the three frames, the kernel's text read at the ideal unchanged, and, where the rows and the three
   projection weights are finite, the kernel's result equal to the reference's. -/
module

public import proofs.«01_k».proof.Defs
public import proofs.«01_k».proof.Proof.Gen.Kernel.Frame
public import proofs.«01_k».proof.Proof.KernelValue
public import proofs.«01_k».proof.Proof.RefValue
public import proofs.«01_k».proof.Proof.Finite
public import Idealize.ShloMosaic.Adequacy
public import Idealize.ShloMosaic.Lib.Quiescent

@[expose] public section

noncomputable section

namespace Cert.Proof

open Idealize.ShloMosaic Idealize.ShloMosaic.TcCoe Idealize.ShloMosaic.ValueIdx Idealize.SL.Sem

/-- The reference runs, its arguments unchanged, and has no semaphore. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree and are finite, the array the kernel writes is the array the reference computes. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hfin : Cert.Pre_finite.fn (F := Ideal) (Blocks.X m c) (Blocks.Wq m c) (Blocks.Wk m c) (Blocks.Wv m c) (Blocks.Wo m c) = fun _ => 1#1)
    (h0 : RefValue.x m' c = Blocks.X m c) (h1 : RefValue.wq m' c = Blocks.Wq m c) (h2 : RefValue.wk m' c = Blocks.Wk m c)
    (h3 : RefValue.wv m' c = Blocks.Wv m c) (h4 : RefValue.wo m' c = Blocks.Wo m c) :
    (Cert.ReferenceIdeal.Value.out_main_v10 (F := Ideal) (Cert.ReferenceIdeal.Value.STEP^[2048] (RefValue.entry m' c)) : FVec Ideal Cert.ReferenceIdeal.S4x2048x1024 .f32)
      = (Cert.KernelIdeal.Value.G5 (F := Ideal) m c : FVec Ideal Cert.KernelIdeal.S4x2048x1024 .f32) := by
  have hl := Finite.lifted _ _ _ _ _ hfin
  funext i
  rw [eq_ix3 i]
  refine (RefValue.result_real m' c _ _ ?_ _ _ _).trans ((congrArg (fun w => Spec.out _ _ (fun e d => w (ix2 e d)) _ _ _) h4).trans
    (KernelValue.array_real m c hl _ _ _).symm)
  rw [RefValue.ArgsReal, h0, h1, h2, h3]
  exact hl

/-- The kernel's result is the reference's, where the rows and the three projection weights are finite. -/
theorem result_eq : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4⟩ := hagree c
  exact arrays_eq m m' c (hpre c) h0 h1 h2 h3 h4

/-- Everything the certificate claims. -/
theorem claim : Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, result_eq⟩

end Cert.Proof

end
